-- ==== Defs.lean ====
def Pre_Kernel [hPre_perm_in_rows : Cert.Pre_perm_in_rows.Facts] (m : (ℓ : Loc Cert.Kernel.nD Cert.Kernel.τ Cert.Kernel.sig) → Buf (Elt Bits) ℓ) : Prop :=
  ∀ c : Dev Cert.Kernel.nD,
    (Cert.Pre_perm_in_rows.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2))) = (fun _ => 1#1)

def Pre_KernelIdeal [hPre_perm_in_rows : Cert.Pre_perm_in_rows.Facts] (m : (ℓ : Loc Cert.KernelIdeal.nD Cert.KernelIdeal.τ Cert.KernelIdeal.sig) → Buf (Elt Ideal) ℓ) : Prop :=
  ∀ c : Dev Cert.KernelIdeal.nD,
    (Cert.Pre_perm_in_rows.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_perm_in_rows [hPre_perm_in_rows : Cert.Pre_perm_in_rows.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_perm_in_rows.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def quiescent_Kernel [hKernel : Cert.Kernel.Facts] [hPre_perm_in_rows : Cert.Pre_perm_in_rows.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (Cert.Kernel.threads (F := Bits)) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))
      ∧ r.2.sem = fun _ => 0)

def quiescent_KernelIdeal [hKernelIdeal : Cert.KernelIdeal.Facts] [hPre_perm_in_rows : Cert.Pre_perm_in_rows.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (Cert.KernelIdeal.threads (F := Ideal)) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def quiescent_ReferenceIdeal_pre_perm_in_rows [hReferenceIdeal : Cert.ReferenceIdeal.Facts] [hPre_perm_in_rows : Cert.Pre_perm_in_rows.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_perm_in_rows m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] [hPre_perm_in_rows : Cert.Pre_perm_in_rows.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v2)),
      θ_run (Cert.KernelIdeal.defs (F := Ideal)) (Cert.KernelIdeal.threads (F := Ideal)) ⟨m, fun _ => 0, g⟩ (fun r => ∀ c : Dev Cert.KernelIdeal.nD,
          r.2.mem ((c.tc : Thread Cert.KernelIdeal.nD Cert.KernelIdeal.τ).loc Cert.KernelIdeal.main_v2) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v6) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_perm_in_rows : Cert.Pre_perm_in_rows.Facts),
    quiescent_Kernel (hKernel := hKernel) (hPre_perm_in_rows := hPre_perm_in_rows)
    ∧ quiescent_KernelIdeal (hKernelIdeal := hKernelIdeal) (hPre_perm_in_rows := hPre_perm_in_rows)
    ∧ quiescent_ReferenceIdeal (hReferenceIdeal := hReferenceIdeal)
    ∧ quiescent_ReferenceIdeal_pre_perm_in_rows (hReferenceIdeal := hReferenceIdeal) (hPre_perm_in_rows := hPre_perm_in_rows)
    ∧ preserves_Kernel_KernelIdeal
    ∧ algebraic_KernelIdeal_ReferenceIdeal (hKernelIdeal := hKernelIdeal) (hReferenceIdeal := hReferenceIdeal) (hPre_perm_in_rows := hPre_perm_in_rows)
-- ==== Pre_perm_in_rows.lean ====
abbrev S16384x128 : Shape := ⟨2, ![16384, 128]⟩
abbrev S16384 : Shape := ⟨1, ![16384]⟩
abbrev S_ : Shape := ⟨0, ![]⟩

class Facts : Prop where
  bcast_S_S16384 : S_.BroadcastsInDim S16384 (![] : Fin 0 → Fin S16384.rank)
  reducesTo_S16384_S_d0 : S16384.ReducesTo [0] S_
  h_S_ : 0 < S_.numel

variable [Facts]

def fn {F : FTy → Type} [FloatOps F] (main_arg0 : FVec F S16384x128 .f32) (main_arg1 : IVec S16384 32) (main_arg2 : FVec F S_ .f32) : IVec S_ 1 :=
  let main_c : IVec S_ 32 := constantI S_ 32 0#32
  let main_v0 : IVec S16384 32 := broadcastInDim S16384 ![] bcast_S_S16384 main_c
  let main_v1 : IVec S16384 1 := cmpi .sge main_arg1 main_v0
  let main_c_0 : IVec S_ 32 := constantI S_ 32 16384#32
  let main_v2 : IVec S16384 32 := broadcastInDim S16384 ![] bcast_S_S16384 main_c_0
  let main_v3 : IVec S16384 1 := cmpi .slt main_arg1 main_v2
  let main_v4 : IVec S16384 1 := andi main_v1 main_v3
  let main_c_1 : IVec S_ 1 := constantI S_ 1 1#1
  let main_v5 : IVec S_ 1 := (fun x v => Host.reduce IntOp.andi x v reducesTo_S16384_S_d0 h_S_) main_v4 main_c_1
  main_v5
-- ==== Kernel.lean ====
abbrev S16384x128 : Shape := ⟨2, ![16384, 128]⟩
abbrev S16384 : Shape := ⟨1, ![16384]⟩
abbrev S_ : Shape := ⟨0, ![]⟩
abbrev S32x4x128 : Shape := ⟨3, ![32, 4, 128]⟩
abbrev S16 : Shape := ⟨1, ![16]⟩
abbrev S4x128 : Shape := ⟨2, ![4, 128]⟩
abbrev S2x128x128 : Shape := ⟨3, ![2, 128, 128]⟩
abbrev S1x4x128 : Shape := ⟨3, ![1, 4, 128]⟩
abbrev S1x128x128 : Shape := ⟨3, ![1, 128, 128]⟩
abbrev S128x128 : Shape := ⟨2, ![128, 128]⟩
abbrev S1x128 : Shape := ⟨2, ![1, 128]⟩
abbrev S128 : Shape := ⟨1, ![128]⟩
abbrev S1x1x16 : Shape := ⟨3, ![1, 1, 16]⟩

abbrev nBuf : Table → Nat
  | .hbm => 6
  | .local .scVector .vmem => 5
  | _ => 0

abbrev bufTy : (tb : Table) → Fin (nBuf tb) → BufTy
  | .hbm, ⟨0, _⟩ => ⟨S16384x128, .f32⟩
  | .hbm, ⟨1, _⟩ => ⟨S16384, .i32⟩
  | .hbm, ⟨2, _⟩ => ⟨S_, .f32⟩
  | .hbm, ⟨3, _⟩ => ⟨S32x4x128, .i32⟩
  | .hbm, ⟨4, _⟩ => ⟨S16, .f32⟩
  | .hbm, ⟨5, _⟩ => ⟨S16384x128, .f32⟩
  | .local .scVector .vmem, ⟨0, _⟩ => ⟨S4x128, .i32⟩
  | .local .scVector .vmem, ⟨1, _⟩ => ⟨S2x128x128, .f32⟩
  | .local .scVector .vmem, ⟨2, _⟩ => ⟨S2x128x128, .f32⟩
  | .local .scVector .vmem, ⟨3, _⟩ => ⟨S2x128x128, .f32⟩
  | .local .scVector .vmem, ⟨4, _⟩ => ⟨S16, .f32⟩
  | _, _ => ⟨S16384x128, .f32⟩

abbrev bufScoped : (cs : CoreSpace) → Fin (nBuf (.local .tc cs)) → Bool
  | _, _ => false

abbrev semScoped : Fin 4 → Bool
  | ⟨0, _⟩ => false
  | ⟨1, _⟩ => false
  | ⟨2, _⟩ => false
  | ⟨3, _⟩ => false
  | _ => false

abbrev dmaSemScoped : Fin 8 → Bool
  | ⟨0, _⟩ => false
  | ⟨1, _⟩ => false
  | ⟨2, _⟩ => false
  | ⟨3, _⟩ => false
  | ⟨4, _⟩ => false
  | ⟨5, _⟩ => false
  | ⟨6, _⟩ => false
  | ⟨7, _⟩ => false
  | _ => false

abbrev sig : RefSig :=
  ofTables nBuf rfl bufTy 4 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_arg0_scv : Ref sig .scVector := ⟨.hbm, 0, rfl⟩
abbrev main_v0_scv : Ref sig .scVector := ⟨.hbm, 3, rfl⟩
abbrev main_v1_scv : Ref sig .scVector := ⟨.hbm, 4, rfl⟩
abbrev main_v2_scv : Ref sig .scVector := ⟨.hbm, 5, rfl⟩
abbrev cc0_scratch0 : Ref sig .scVector := ⟨.vmem, 0, rfl⟩
abbrev cc0_scratch1 : Ref sig .scVector := ⟨.vmem, 1, rfl⟩
abbrev cc0_scratch2 : Ref sig .scVector := ⟨.vmem, 2, rfl⟩
abbrev cc0_scratch3 : Ref sig .scVector := ⟨.vmem, 3, rfl⟩
abbrev cc0_scratch4 : Ref sig .scVector := ⟨.vmem, 4, rfl⟩
abbrev sc_start : Sem sig := 0
abbrev sc_done : Sem sig := 1
abbrev sc_go : Sem sig := 2
abbrev sc_taskDone : Sem sig := 3

abbrev nD : Nat := 1
abbrev τ : Topo := Topo.v7x

variable {F : FTy → Type} [FloatOps F]

abbrev grid0 : Pipeline.Grid := ⟨2, ![2, 16], ![false, false]⟩

def k0_off1 (i : grid0.Coords) : Fin 3 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32 : BitVec 32 := 0#32
  let c0_i32_0 : BitVec 32 := 0#32
  ![v1.toNat, 0, 0]
def k0_off2 (i : grid0.Coords) (c0_i32_3 : BitVec 32) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c512_i32 : BitVec 32 := 512#32
  let v2 : BitVec 32 := Scalar.muli v1 c512_i32
  let v7 : BitVec 32 := Scalar.addi v2 c0_i32_3
  let c0_i32_7 : BitVec 32 := 0#32
  ![v7.toNat, 0]
@[reducible] def k0_t1_loop : Scf.Loop 32 :=
  let c0_i32_50 : BitVec 32 := 0#32
  let c128_i32_51 : BitVec 32 := 128#32
  let v50 : BitVec 32 := Scalar.addi c0_i32_50 c128_i32_51
  let c1_i32_52 : BitVec 32 := 1#32
  ⟨c0_i32_50, v50, c1_i32_52⟩
def k0_off3 (k0_t1 : Fin k0_t1_loop.trips) : Fin 3 → Nat :=
  let c0_i32_198 : BitVec 32 := 0#32
  let v163 : Index := Scalar.indexCast c0_i32_198
  let c0_i32_50 : BitVec 32 := 0#32
  let c1_i32_52 : BitVec 32 := 1#32
  let arg19 : BitVec 32 := Scf.iv c0_i32_50 c1_i32_52 k0_t1
  let v164 : Index := Scalar.indexCast arg19
  let c0_199 : Index := 0#32
  ![0, v164.toNat, 0]
def k0_off4 (k0_t1 : Fin k0_t1_loop.trips) : Fin 3 → Nat :=
  let c0_i32_204 : BitVec 32 := 0#32
  let v179 : Index := Scalar.indexCast c0_i32_204
  let c0_i32_50 : BitVec 32 := 0#32
  let c1_i32_52 : BitVec 32 := 1#32
  let arg19 : BitVec 32 := Scf.iv c0_i32_50 c1_i32_52 k0_t1
  let v180 : Index := Scalar.indexCast arg19
  let c16 : Index := 16#32
  ![0, v180.toNat, 16]
def k0_off5 (k0_t1 : Fin k0_t1_loop.trips) : Fin 3 → Nat :=
  let c0_i32_209 : BitVec 32 := 0#32
  let v195 : Index := Scalar.indexCast c0_i32_209
  let c0_i32_50 : BitVec 32 := 0#32
  let c1_i32_52 : BitVec 32 := 1#32
  let arg19 : BitVec 32 := Scf.iv c0_i32_50 c1_i32_52 k0_t1
  let v196 : Index := Scalar.indexCast arg19
  let c32 : Index := 32#32
  ![0, v196.toNat, 32]
def k0_off6 (k0_t1 : Fin k0_t1_loop.trips) : Fin 3 → Nat :=
  let c0_i32_214 : BitVec 32 := 0#32
  let v211 : Index := Scalar.indexCast c0_i32_214
  let c0_i32_50 : BitVec 32 := 0#32
  let c1_i32_52 : BitVec 32 := 1#32
  let arg19 : BitVec 32 := Scf.iv c0_i32_50 c1_i32_52 k0_t1
  let v212 : Index := Scalar.indexCast arg19
  let c48 : Index := 48#32
  ![0, v212.toNat, 48]
def k0_off7 (k0_t1 : Fin k0_t1_loop.trips) : Fin 3 → Nat :=
  let c0_i32_219 : BitVec 32 := 0#32
  let v227 : Index := Scalar.indexCast c0_i32_219
  let c0_i32_50 : BitVec 32 := 0#32
  let c1_i32_52 : BitVec 32 := 1#32
  let arg19 : BitVec 32 := Scf.iv c0_i32_50 c1_i32_52 k0_t1
  let v228 : Index := Scalar.indexCast arg19
  let c64 : Index := 64#32
  ![0, v228.toNat, 64]
def k0_off8 (k0_t1 : Fin k0_t1_loop.trips) : Fin 3 → Nat :=
  let c0_i32_224 : BitVec 32 := 0#32
  let v243 : Index := Scalar.indexCast c0_i32_224
  let c0_i32_50 : BitVec 32 := 0#32
  let c1_i32_52 : BitVec 32 := 1#32
  let arg19 : BitVec 32 := Scf.iv c0_i32_50 c1_i32_52 k0_t1
  let v244 : Index := Scalar.indexCast arg19
  let c80 : Index := 80#32
  ![0, v244.toNat, 80]
def k0_off9 (k0_t1 : Fin k0_t1_loop.trips) : Fin 3 → Nat :=
  let c0_i32_229 : BitVec 32 := 0#32
  let v259 : Index := Scalar.indexCast c0_i32_229
  let c0_i32_50 : BitVec 32 := 0#32
  let c1_i32_52 : BitVec 32 := 1#32
  let arg19 : BitVec 32 := Scf.iv c0_i32_50 c1_i32_52 k0_t1
  let v260 : Index := Scalar.indexCast arg19
  let c96 : Index := 96#32
  ![0, v260.toNat, 96]
def k0_off10 (k0_t1 : Fin k0_t1_loop.trips) : Fin 3 → Nat :=
  let c0_i32_234 : BitVec 32 := 0#32
  let v275 : Index := Scalar.indexCast c0_i32_234
  let c0_i32_50 : BitVec 32 := 0#32
  let c1_i32_52 : BitVec 32 := 1#32
  let arg19 : BitVec 32 := Scf.iv c0_i32_50 c1_i32_52 k0_t1
  let v276 : Index := Scalar.indexCast arg19
  let c112 : Index := 112#32
  ![0, v276.toNat, 112]
@[reducible] def k0_t2_loop : Scf.Loop 32 :=
  let c0_i32_91 : BitVec 32 := 0#32
  let c128_i32_92 : BitVec 32 := 128#32
  let v81 : BitVec 32 := Scalar.addi c0_i32_91 c128_i32_92
  let c1_i32_93 : BitVec 32 := 1#32
  ⟨c0_i32_91, v81, c1_i32_93⟩
def k0_off11 (k0_t2 : Fin k0_t2_loop.trips) : Fin 3 → Nat :=
  let c1_i32_198 : BitVec 32 := 1#32
  let v163 : Index := Scalar.indexCast c1_i32_198
  let c0_i32_91 : BitVec 32 := 0#32
  let c1_i32_93 : BitVec 32 := 1#32
  let arg19 : BitVec 32 := Scf.iv c0_i32_91 c1_i32_93 k0_t2
  let v164 : Index := Scalar.indexCast arg19
  let c0_199 : Index := 0#32
  ![1, v164.toNat, 0]
def k0_off12 (k0_t2 : Fin k0_t2_loop.trips) : Fin 3 → Nat :=
  let c1_i32_204 : BitVec 32 := 1#32
  let v179 : Index := Scalar.indexCast c1_i32_204
  let c0_i32_91 : BitVec 32 := 0#32
  let c1_i32_93 : BitVec 32 := 1#32
  let arg19 : BitVec 32 := Scf.iv c0_i32_91 c1_i32_93 k0_t2
  let v180 : Index := Scalar.indexCast arg19
  let c16 : Index := 16#32
  ![1, v180.toNat, 16]
def k0_off13 (k0_t2 : Fin k0_t2_loop.trips) : Fin 3 → Nat :=
  let c1_i32_209 : BitVec 32 := 1#32
  let v195 : Index := Scalar.indexCast c1_i32_209
  let c0_i32_91 : BitVec 32 := 0#32
  let c1_i32_93 : BitVec 32 := 1#32
  let arg19 : BitVec 32 := Scf.iv c0_i32_91 c1_i32_93 k0_t2
  let v196 : Index := Scalar.indexCast arg19
  let c32 : Index := 32#32
  ![1, v196.toNat, 32]
def k0_off14 (k0_t2 : Fin k0_t2_loop.trips) : Fin 3 → Nat :=
  let c1_i32_214 : BitVec 32 := 1#32
  let v211 : Index := Scalar.indexCast c1_i32_214
  let c0_i32_91 : BitVec 32 := 0#32
  let c1_i32_93 : BitVec 32 := 1#32
  let arg19 : BitVec 32 := Scf.iv c0_i32_91 c1_i32_93 k0_t2
  let v212 : Index := Scalar.indexCast arg19
  let c48 : Index := 48#32
  ![1, v212.toNat, 48]
def k0_off15 (k0_t2 : Fin k0_t2_loop.trips) : Fin 3 → Nat :=
  let c1_i32_219 : BitVec 32 := 1#32
  let v227 : Index := Scalar.indexCast c1_i32_219
  let c0_i32_91 : BitVec 32 := 0#32
  let c1_i32_93 : BitVec 32 := 1#32
  let arg19 : BitVec 32 := Scf.iv c0_i32_91 c1_i32_93 k0_t2
  let v228 : Index := Scalar.indexCast arg19
  let c64 : Index := 64#32
  ![1, v228.toNat, 64]
def k0_off16 (k0_t2 : Fin k0_t2_loop.trips) : Fin 3 → Nat :=
  let c1_i32_224 : BitVec 32 := 1#32
  let v243 : Index := Scalar.indexCast c1_i32_224
  let c0_i32_91 : BitVec 32 := 0#32
  let c1_i32_93 : BitVec 32 := 1#32
  let arg19 : BitVec 32 := Scf.iv c0_i32_91 c1_i32_93 k0_t2
  let v244 : Index := Scalar.indexCast arg19
  let c80 : Index := 80#32
  ![1, v244.toNat, 80]
def k0_off17 (k0_t2 : Fin k0_t2_loop.trips) : Fin 3 → Nat :=
  let c1_i32_229 : BitVec 32 := 1#32
  let v259 : Index := Scalar.indexCast c1_i32_229
  let c0_i32_91 : BitVec 32 := 0#32
  let c1_i32_93 : BitVec 32 := 1#32
  let arg19 : BitVec 32 := Scf.iv c0_i32_91 c1_i32_93 k0_t2
  let v260 : Index := Scalar.indexCast arg19
  let c96 : Index := 96#32
  ![1, v260.toNat, 96]
def k0_off18 (k0_t2 : Fin k0_t2_loop.trips) : Fin 3 → Nat :=
  let c1_i32_234 : BitVec 32 := 1#32
  let v275 : Index := Scalar.indexCast c1_i32_234
  let c0_i32_91 : BitVec 32 := 0#32
  let c1_i32_93 : BitVec 32 := 1#32
  let arg19 : BitVec 32 := Scf.iv c0_i32_91 c1_i32_93 k0_t2
  let v276 : Index := Scalar.indexCast arg19
  let c112 : Index := 112#32
  ![1, v276.toNat, 112]
@[reducible] def k0_t3_loop : Scf.Loop 32 :=
  let c0_i32_138 : BitVec 32 := 0#32
  let c128_i32_139 : BitVec 32 := 128#32
  let v118 : BitVec 32 := Scalar.addi c0_i32_138 c128_i32_139
  let c1_i32_140 : BitVec 32 := 1#32
  ⟨c0_i32_138, v118, c1_i32_140⟩
def k0_off19 (k0_t3 : Fin k0_t3_loop.trips) : Fin 3 → Nat :=
  let c0_i32_198 : BitVec 32 := 0#32
  let v163 : Index := Scalar.indexCast c0_i32_198
  let c0_i32_138 : BitVec 32 := 0#32
  let c1_i32_140 : BitVec 32 := 1#32
  let arg19 : BitVec 32 := Scf.iv c0_i32_138 c1_i32_140 k0_t3
  let v164 : Index := Scalar.indexCast arg19
  let c0_199 : Index := 0#32
  ![0, v164.toNat, 0]
def k0_off20 (k0_t3 : Fin k0_t3_loop.trips) : Fin 3 → Nat :=
  let c0_i32_204 : BitVec 32 := 0#32
  let v179 : Index := Scalar.indexCast c0_i32_204
  let c0_i32_138 : BitVec 32 := 0#32
  let c1_i32_140 : BitVec 32 := 1#32
  let arg19 : BitVec 32 := Scf.iv c0_i32_138 c1_i32_140 k0_t3
  let v180 : Index := Scalar.indexCast arg19
  let c16 : Index := 16#32
  ![0, v180.toNat, 16]
def k0_off21 (k0_t3 : Fin k0_t3_loop.trips) : Fin 3 → Nat :=
  let c0_i32_209 : BitVec 32 := 0#32
  let v195 : Index := Scalar.indexCast c0_i32_209
  let c0_i32_138 : BitVec 32 := 0#32
  let c1_i32_140 : BitVec 32 := 1#32
  let arg19 : BitVec 32 := Scf.iv c0_i32_138 c1_i32_140 k0_t3
  let v196 : Index := Scalar.indexCast arg19
  let c32 : Index := 32#32
  ![0, v196.toNat, 32]
def k0_off22 (k0_t3 : Fin k0_t3_loop.trips) : Fin 3 → Nat :=
  let c0_i32_214 : BitVec 32 := 0#32
  let v211 : Index := Scalar.indexCast c0_i32_214
  let c0_i32_138 : BitVec 32 := 0#32
  let c1_i32_140 : BitVec 32 := 1#32
  let arg19 : BitVec 32 := Scf.iv c0_i32_138 c1_i32_140 k0_t3
  let v212 : Index := Scalar.indexCast arg19
  let c48 : Index := 48#32
  ![0, v212.toNat, 48]
def k0_off23 (k0_t3 : Fin k0_t3_loop.trips) : Fin 3 → Nat :=
  let c0_i32_219 : BitVec 32 := 0#32
  let v227 : Index := Scalar.indexCast c0_i32_219
  let c0_i32_138 : BitVec 32 := 0#32
  let c1_i32_140 : BitVec 32 := 1#32
  let arg19 : BitVec 32 := Scf.iv c0_i32_138 c1_i32_140 k0_t3
  let v228 : Index := Scalar.indexCast arg19
  let c64 : Index := 64#32
  ![0, v228.toNat, 64]
def k0_off24 (k0_t3 : Fin k0_t3_loop.trips) : Fin 3 → Nat :=
  let c0_i32_224 : BitVec 32 := 0#32
  let v243 : Index := Scalar.indexCast c0_i32_224
  let c0_i32_138 : BitVec 32 := 0#32
  let c1_i32_140 : BitVec 32 := 1#32
  let arg19 : BitVec 32 := Scf.iv c0_i32_138 c1_i32_140 k0_t3
  let v244 : Index := Scalar.indexCast arg19
  let c80 : Index := 80#32
  ![0, v244.toNat, 80]
def k0_off25 (k0_t3 : Fin k0_t3_loop.trips) : Fin 3 → Nat :=
  let c0_i32_229 : BitVec 32 := 0#32
  let v259 : Index := Scalar.indexCast c0_i32_229
  let c0_i32_138 : BitVec 32 := 0#32
  let c1_i32_140 : BitVec 32 := 1#32
  let arg19 : BitVec 32 := Scf.iv c0_i32_138 c1_i32_140 k0_t3
  let v260 : Index := Scalar.indexCast arg19
  let c96 : Index := 96#32
  ![0, v260.toNat, 96]
def k0_off26 (k0_t3 : Fin k0_t3_loop.trips) : Fin 3 → Nat :=
  let c0_i32_234 : BitVec 32 := 0#32
  let v275 : Index := Scalar.indexCast c0_i32_234
  let c0_i32_138 : BitVec 32 := 0#32
  let c1_i32_140 : BitVec 32 := 1#32
  let arg19 : BitVec 32 := Scf.iv c0_i32_138 c1_i32_140 k0_t3
  let v276 : Index := Scalar.indexCast arg19
  let c112 : Index := 112#32
  ![0, v276.toNat, 112]
@[reducible] def k0_t4_loop : Scf.Loop 32 :=
  let c0_i32_172 : BitVec 32 := 0#32
  let c128_i32_173 : BitVec 32 := 128#32
  let v143 : BitVec 32 := Scalar.addi c0_i32_172 c128_i32_173
  let c1_i32_174 : BitVec 32 := 1#32
  ⟨c0_i32_172, v143, c1_i32_174⟩
def k0_off27 (k0_t4 : Fin k0_t4_loop.trips) : Fin 3 → Nat :=
  let c1_i32_198 : BitVec 32 := 1#32
  let v163 : Index := Scalar.indexCast c1_i32_198
  let c0_i32_172 : BitVec 32 := 0#32
  let c1_i32_174 : BitVec 32 := 1#32
  let arg19 : BitVec 32 := Scf.iv c0_i32_172 c1_i32_174 k0_t4
  let v164 : Index := Scalar.indexCast arg19
  let c0_199 : Index := 0#32
  ![1, v164.toNat, 0]
def k0_off28 (k0_t4 : Fin k0_t4_loop.trips) : Fin 3 → Nat :=
  let c1_i32_204 : BitVec 32 := 1#32
  let v179 : Index := Scalar.indexCast c1_i32_204
  let c0_i32_172 : BitVec 32 := 0#32
  let c1_i32_174 : BitVec 32 := 1#32
  let arg19 : BitVec 32 := Scf.iv c0_i32_172 c1_i32_174 k0_t4
  let v180 : Index := Scalar.indexCast arg19
  let c16 : Index := 16#32
  ![1, v180.toNat, 16]
def k0_off29 (k0_t4 : Fin k0_t4_loop.trips) : Fin 3 → Nat :=
  let c1_i32_209 : BitVec 32 := 1#32
  let v195 : Index := Scalar.indexCast c1_i32_209
  let c0_i32_172 : BitVec 32 := 0#32
  let c1_i32_174 : BitVec 32 := 1#32
  let arg19 : BitVec 32 := Scf.iv c0_i32_172 c1_i32_174 k0_t4
  let v196 : Index := Scalar.indexCast arg19
  let c32 : Index := 32#32
  ![1, v196.toNat, 32]
def k0_off30 (k0_t4 : Fin k0_t4_loop.trips) : Fin 3 → Nat :=
  let c1_i32_214 : BitVec 32 := 1#32
  let v211 : Index := Scalar.indexCast c1_i32_214
  let c0_i32_172 : BitVec 32 := 0#32
  let c1_i32_174 : BitVec 32 := 1#32
  let arg19 : BitVec 32 := Scf.iv c0_i32_172 c1_i32_174 k0_t4
  let v212 : Index := Scalar.indexCast arg19
  let c48 : Index := 48#32
  ![1, v212.toNat, 48]
def k0_off31 (k0_t4 : Fin k0_t4_loop.trips) : Fin 3 → Nat :=
  let c1_i32_219 : BitVec 32 := 1#32
  let v227 : Index := Scalar.indexCast c1_i32_219
  let c0_i32_172 : BitVec 32 := 0#32
  let c1_i32_174 : BitVec 32 := 1#32
  let arg19 : BitVec 32 := Scf.iv c0_i32_172 c1_i32_174 k0_t4
  let v228 : Index := Scalar.indexCast arg19
  let c64 : Index := 64#32
  ![1, v228.toNat, 64]
def k0_off32 (k0_t4 : Fin k0_t4_loop.trips) : Fin 3 → Nat :=
  let c1_i32_224 : BitVec 32 := 1#32
  let v243 : Index := Scalar.indexCast c1_i32_224
  let c0_i32_172 : BitVec 32 := 0#32
  let c1_i32_174 : BitVec 32 := 1#32
  let arg19 : BitVec 32 := Scf.iv c0_i32_172 c1_i32_174 k0_t4
  let v244 : Index := Scalar.indexCast arg19
  let c80 : Index := 80#32
  ![1, v244.toNat, 80]
def k0_off33 (k0_t4 : Fin k0_t4_loop.trips) : Fin 3 → Nat :=
  let c1_i32_229 : BitVec 32 := 1#32
  let v259 : Index := Scalar.indexCast c1_i32_229
  let c0_i32_172 : BitVec 32 := 0#32
  let c1_i32_174 : BitVec 32 := 1#32
  let arg19 : BitVec 32 := Scf.iv c0_i32_172 c1_i32_174 k0_t4
  let v260 : Index := Scalar.indexCast arg19
  let c96 : Index := 96#32
  ![1, v260.toNat, 96]
def k0_off34 (k0_t4 : Fin k0_t4_loop.trips) : Fin 3 → Nat :=
  let c1_i32_234 : BitVec 32 := 1#32
  let v275 : Index := Scalar.indexCast c1_i32_234
  let c0_i32_172 : BitVec 32 := 0#32
  let c1_i32_174 : BitVec 32 := 1#32
  let arg19 : BitVec 32 := Scf.iv c0_i32_172 c1_i32_174 k0_t4
  let v276 : Index := Scalar.indexCast arg19
  let c112 : Index := 112#32
  ![1, v276.toNat, 112]
abbrev scKind : Fin 1 → Kind := fun | 0 => .scVector | ⟨_ + 1, h⟩ => absurd h (Nat.not_lt.2 (Nat.le_add_left _ _))
abbrev scNCore : Fin 1 → Nat := fun | 0 => 2 | ⟨_ + 1, h⟩ => absurd h (Nat.not_lt.2 (Nat.le_add_left _ _))
abbrev scNSub : Fin 1 → Nat := fun | 0 => 16 | ⟨_ + 1, h⟩ => absurd h (Nat.not_lt.2 (Nat.le_add_left _ _))
-- ==== ReferenceIdeal.lean ====
abbrev S16384x128 : Shape := ⟨2, ![16384, 128]⟩
abbrev S16384 : Shape := ⟨1, ![16384]⟩
abbrev S_ : Shape := ⟨0, ![]⟩
abbrev S16384x1 : Shape := ⟨2, ![16384, 1]⟩
abbrev S1 : Shape := ⟨1, ![1]⟩
abbrev S1x1 : Shape := ⟨2, ![1, 1]⟩

abbrev nBuf : Space → Nat
  | .hbm => 33
  | .vmem => 0
  | .smem => 0
  | _ => 0

abbrev bufTy : (tb : Table) → Fin (tcTables nBuf tb) → BufTy
  | .hbm, ⟨0, _⟩ => ⟨S16384x128, .f32⟩
  | .hbm, ⟨1, _⟩ => ⟨S16384, .i32⟩
  | .hbm, ⟨2, _⟩ => ⟨S_, .f32⟩
  | .hbm, ⟨3, _⟩ => ⟨S_, .i32⟩
  | .hbm, ⟨4, _⟩ => ⟨S16384, .i32⟩
  | .hbm, ⟨5, _⟩ => ⟨S16384, .i1⟩
  | .hbm, ⟨6, _⟩ => ⟨S_, .i32⟩
  | .hbm, ⟨7, _⟩ => ⟨S16384, .i32⟩
  | .hbm, ⟨8, _⟩ => ⟨S16384, .i32⟩
  | .hbm, ⟨9, _⟩ => ⟨S16384, .i32⟩
  | .hbm, ⟨10, _⟩ => ⟨S16384x1, .i32⟩
  | .hbm, ⟨11, _⟩ => ⟨S1, .i32⟩
  | .hbm, ⟨12, _⟩ => ⟨S_, .i32⟩
  | .hbm, ⟨13, _⟩ => ⟨S16384x1, .i32⟩
  | .hbm, ⟨14, _⟩ => ⟨S16384x1, .i1⟩
  | .hbm, ⟨15, _⟩ => ⟨S1x1, .i32⟩
  | .hbm, ⟨16, _⟩ => ⟨S16384x1, .i32⟩
  | .hbm, ⟨17, _⟩ => ⟨S16384x1, .i1⟩
  | .hbm, ⟨18, _⟩ => ⟨S16384x1, .i1⟩
  | .hbm, ⟨19, _⟩ => ⟨S_, .i1⟩
  | .hbm, ⟨20, _⟩ => ⟨S16384, .i1⟩
  | .hbm, ⟨21, _⟩ => ⟨S16384x128, .f32⟩
  | .hbm, ⟨22, _⟩ => ⟨S16384x128, .i1⟩
  | .hbm, ⟨23, _⟩ => ⟨S_, .f32⟩
  | .hbm, ⟨24, _⟩ => ⟨S16384x128, .f32⟩
  | .hbm, ⟨25, _⟩ => ⟨S16384x128, .f32⟩
  | .hbm, ⟨26, _⟩ => ⟨S16384x128, .f32⟩
  | .hbm, ⟨27, _⟩ => ⟨S16384x128, .f32⟩
  | .hbm, ⟨28, _⟩ => ⟨S_, .f32⟩
  | .hbm, ⟨29, _⟩ => ⟨S_, .f32⟩
  | .hbm, ⟨30, _⟩ => ⟨S16384x128, .f32⟩
  | .hbm, ⟨31, _⟩ => ⟨S16384x128, .f32⟩
  | .hbm, ⟨32, _⟩ => ⟨S16384x128, .f32⟩
  | _, _ => ⟨S16384x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_call0_c : Ref sig .tc := ⟨.hbm, 3, rfl⟩
abbrev main_call0_v0 : Ref sig .tc := ⟨.hbm, 4, rfl⟩
abbrev main_call0_v1 : Ref sig .tc := ⟨.hbm, 5, rfl⟩
abbrev main_call0_c_0 : Ref sig .tc := ⟨.hbm, 6, rfl⟩
abbrev main_call0_v2 : Ref sig .tc := ⟨.hbm, 7, rfl⟩
abbrev main_call0_v3 : Ref sig .tc := ⟨.hbm, 8, rfl⟩
abbrev main_call0_v4 : Ref sig .tc := ⟨.hbm, 9, rfl⟩
abbrev main_call0_v5 : Ref sig .tc := ⟨.hbm, 10, rfl⟩
abbrev main_call0_c_1 : Ref sig .tc := ⟨.hbm, 11, rfl⟩
abbrev main_call0_c_2 : Ref sig .tc := ⟨.hbm, 12, rfl⟩
abbrev main_call0_v6 : Ref sig .tc := ⟨.hbm, 13, rfl⟩
abbrev main_call0_v7 : Ref sig .tc := ⟨.hbm, 14, rfl⟩
abbrev main_call0_v8 : Ref sig .tc := ⟨.hbm, 15, rfl⟩
abbrev main_call0_v9 : Ref sig .tc := ⟨.hbm, 16, rfl⟩
abbrev main_call0_v10 : Ref sig .tc := ⟨.hbm, 17, rfl⟩
abbrev main_call0_v11 : Ref sig .tc := ⟨.hbm, 18, rfl⟩
abbrev main_call0_c_3 : Ref sig .tc := ⟨.hbm, 19, rfl⟩
abbrev main_call0_v12 : Ref sig .tc := ⟨.hbm, 20, rfl⟩
abbrev main_call0_v13 : Ref sig .tc := ⟨.hbm, 21, rfl⟩
abbrev main_call0_v14 : Ref sig .tc := ⟨.hbm, 22, rfl⟩
abbrev main_call0_cst : Ref sig .tc := ⟨.hbm, 23, rfl⟩
abbrev main_call0_v15 : Ref sig .tc := ⟨.hbm, 24, rfl⟩
abbrev main_v0 : Ref sig .tc := ⟨.hbm, 25, rfl⟩
abbrev main_v1 : Ref sig .tc := ⟨.hbm, 26, rfl⟩
abbrev main_v2 : Ref sig .tc := ⟨.hbm, 27, rfl⟩
abbrev main_cst : Ref sig .tc := ⟨.hbm, 28, rfl⟩
abbrev main_v3 : Ref sig .tc := ⟨.hbm, 29, rfl⟩
abbrev main_v4 : Ref sig .tc := ⟨.hbm, 30, rfl⟩
abbrev main_v5 : Ref sig .tc := ⟨.hbm, 31, rfl⟩
abbrev main_v6 : Ref sig .tc := ⟨.hbm, 32, rfl⟩

abbrev nD : Nat := 1
abbrev τ : Topo := Topo.v7x

variable {F : FTy → Type} [FloatOps F]
-- ==== Proof.Setup.lean ====
/-
  The names every later module uses: the launch as the library sees it, the resource algebra, the four HBM arrays and
  the five scratch buffers of a tile, and the boxes of them that the tile's copies and gathers address.
-/
module

public import proofs.«01_k».proof.Defs
public import Idealize.ShloMosaic.Lib.SparseCore.Quiescent
public import Idealize.ShloMosaic.Lib.SparseCore.Ops
public import Idealize.ShloMosaic.Lib.SparseCore.Stream
public import Idealize.ShloMosaic.Lib.SparseCore.FromWhole
public import Idealize.ShloMosaic.Lib.ShareLeaves
public import Idealize.ShloMosaic.Lib.ValueLayout
public import Idealize.ShloMosaic.Lib.ReshapeSlab
public import Idealize.ShloMosaic.Lib.StableHlo.Run
public import Idealize.ShloMosaic.Lib.Pipeline.Kit
public import Idealize.ShloMosaic.Lib.Tactic
public import proofs.«01_k».proof.Proof.Gen.KernelIdeal
public import proofs.«01_k».proof.Proof.Gen.KernelIdeal.Skeleton

@[expose] public section

noncomputable section

namespace Cert.Proof.Mix

open Cert.KernelIdeal Cert.KernelIdeal.Gen

open Idealize.ShloMosaic
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

/-! ## The launch -/

abbrev ΛP : Labels := Pipeline.Sig Λ₀ (Fin 0) fun p => (pcfgs (F := F) p).Adm
abbrev K : SparseCore.Cfg τ sig (ΛP (F := F)) 1 := sc (F := F)
abbrev D [FloatOps F] : Defs nD τ sig (Elt F) (ΛP (F := F)) := Pipeline.defs pcfgs defs₀
abbrev 𝒱₀ : Variants := Variants.none
abbrev 𝒱 : Variants := 𝒱₀.lift
abbrev v₀ : 𝒱.V := Sum.inl none

theorem nSub_zero : (K (F := F)).nSub 0 = 16 := rfl
theorem nCore_zero : (K (F := F)).nCore 0 = 2 := rfl

/-- The side conditions of the launch theorem: the four launch semaphores are distinct and unscoped. -/
theorem facts : (K (F := F)).Facts :=
  ⟨show sc_start ≠ sc_taskDone by decide, show (SemLoc.reg sc_start : SemLoc sig).isScoped .scScalar = false by decide,
    show (SemLoc.reg sc_taskDone : SemLoc sig).isScoped .scScalar = false by decide, show (SemLoc.reg sc_go : SemLoc sig).isScoped .scVector = false by decide,
    show (SemLoc.reg sc_done : SemLoc sig).isScoped .tc = false by decide,
    show ∀ (b : DevRef τ sig) (c : Fin τ.nSC), b.owner = .sc c → sig.taskShared b.table b.idx = false by decide, fun _ => rfl⟩

/-! ## The resource algebra: the launch's rounds, the transfers' counters -/

abbrev UH : Type := URounds (GSem nD τ sig) ℕ
abbrev UU : Type := UH × Counters

local notation "𝕄" => MT nD τ sig (HIx 1) (Elt F) ℕ UU ℕ

abbrev EH : Emb UH (MT nD τ sig (HIx 1) (Elt F) ℕ UU ℕ) := embL

/-! ## The HBM arrays: `x`, the row numbers as [32, 4, 128], `alpha` sixteen times, the result -/

abbrev xLoc (d : Dev nD) : Loc nD τ sig := (SparseCore.T d).loc main_arg0
abbrev pLoc (d : Dev nD) : Loc nD τ sig := (SparseCore.T d).loc main_arg1
abbrev aLoc (d : Dev nD) : Loc nD τ sig := (SparseCore.T d).loc main_arg2
abbrev rLoc (d : Dev nD) : Loc nD τ sig := (SparseCore.T d).loc main_v0
abbrev sLoc (d : Dev nD) : Loc nD τ sig := (SparseCore.T d).loc main_v1
abbrev oLoc (d : Dev nD) : Loc nD τ sig := (SparseCore.T d).loc main_v2

abbrev xH : Memref sig Kind.scVector Space.hbm S16384x128 EltTy.f32 := Memref.whole main_arg0_scv
abbrev rH : Memref sig Kind.scVector Space.hbm S32x4x128 EltTy.i32 := Memref.whole main_v0_scv
abbrev sH : Memref sig Kind.scVector Space.hbm S16 EltTy.f32 := Memref.whole main_v1_scv
abbrev oH : Memref sig Kind.scVector Space.hbm S16384x128 EltTy.f32 := Memref.whole main_v2_scv

/-! ## A tile and its scratch: the list of row numbers, `x`'s rows, the gathered rows, the mixed rows, `alpha` -/

abbrev cV (L : grid0.Coords) : Fin τ.nSC := (L 0).castLE hcore0
abbrev jV (L : grid0.Coords) : Fin τ.nSub := (L 1).castLE hsub0
/-- The thread of the tile at grid coordinates `L` on device `d`. -/
abbrev tV (d : Dev nD) (L : grid0.Coords) : Thread nD τ := V d (cV L) (jV L)

abbrev idxB : Memref sig Kind.scVector Space.vmem S4x128 EltTy.i32 := Memref.whole cc0_scratch0
abbrev xB : Memref sig Kind.scVector Space.vmem S2x128x128 EltTy.f32 := Memref.whole cc0_scratch1
abbrev pB : Memref sig Kind.scVector Space.vmem S2x128x128 EltTy.f32 := Memref.whole cc0_scratch2
abbrev oB : Memref sig Kind.scVector Space.vmem S2x128x128 EltTy.f32 := Memref.whole cc0_scratch3
abbrev aB : Memref sig Kind.scVector Space.vmem S16 EltTy.f32 := Memref.whole cc0_scratch4

theorem slot_inb (b : Fin 2) : ∀ a, (![b.val, 0, 0] : Fin 3 → ℕ) a + S1x128x128.size a ≤ S2x128x128.size a := by
  intro a; fin_cases a <;> simp <;> omega
theorem list_inb (k : Fin 4) : ∀ a, (![k.val, 0] : Fin 2 → ℕ) a + S1x128.size a ≤ S4x128.size a := by
  intro a; fin_cases a <;> simp <;> omega

/-- Slot `b` of a two-slot buffer, as a 128 × 128 block. -/
abbrev slot (M : Memref sig Kind.scVector Space.vmem S2x128x128 EltTy.f32) (b : Fin 2) : Memref sig Kind.scVector Space.vmem S128x128 EltTy.f32 :=
  (M.slice (Rect.unit (s := S2x128x128) ![b.val, 0, 0] S1x128x128.size (slot_inb b)) (fun _ => rfl)).squeeze S128x128 squeezes_S1x128x128_S128x128
/-- Row `k` of the list of row numbers. -/
abbrev lrow (k : Fin 4) : Memref sig Kind.scVector Space.vmem S128 EltTy.i32 :=
  (idxB.slice (Rect.unit (s := S4x128) ![k.val, 0] S1x128.size (list_inb k)) (fun _ => rfl)).squeeze S128 squeezes_S1x128_S128
/-- The tile's block of the row numbers. -/
abbrev listH (L : grid0.Coords) : Memref sig Kind.scVector Space.hbm S4x128 EltTy.i32 :=
  (rH.slice (Rect.unit (s := S32x4x128) (k0_off1 L) S1x4x128.size (k0_off1_inb L)) (fun _ => rfl)).squeeze S4x128 squeezes_S1x4x128_S4x128
/-- Chunk `r` of the tile's rows of an array shaped as `x`. -/
abbrev chunkH (A : Memref sig Kind.scVector Space.hbm S16384x128 EltTy.f32) (L : grid0.Coords) (r : Fin 4) : Memref sig Kind.scVector Space.hbm S128x128 EltTy.f32 :=
  A.slice (Rect.unit (s := S16384x128) (k0_off2 L (BitVec.ofNat 32 (128 * r.val))) S128x128.size (k0_off2_inb L r)) (fun _ => rfl)
/-- The whole of `x`, as the gathers name it. -/
abbrev allH : Memref sig Kind.scVector Space.hbm S16384x128 EltTy.f32 :=
  xH.slice (Rect.unit (s := S16384x128) ![0, 0] S16384x128.size inb_S16384x128_S16384x128_0_0) (fun _ => rfl)

/-- The number of the tile's chunk `r` among the 128 chunks of the array, and its first row. -/
def cnum (L : grid0.Coords) (r : Fin 4) : ℕ := 8 * (L 1).val + 4 * (L 0).val + r.val
/-- The tile's own number. -/
def wnum (L : grid0.Coords) : ℕ := 2 * (L 1).val + (L 0).val

end Cert.Proof.Mix

end
-- ==== Proof.Places.lean ====
/-
  Where the boxes of the tile's copies lie in their arrays: the coordinates of each box's elements, and each box's
  element set in closed form.
-/
module

public import proofs.«01_k».proof.Proof.Setup

@[expose] public section

noncomputable section

namespace Cert.Proof.Mix

open Cert.KernelIdeal Cert.KernelIdeal.Gen
open Idealize.ShloMosaic
open Idealize.ShloMosaic.ValueIdx

theorem L0_lt (L : grid0.Coords) : (L 0).val < 2 := (L 0).isLt
theorem L1_lt (L : grid0.Coords) : (L 1).val < 16 := (L 1).isLt

/-- The image of an embedding, given by its two inclusions. -/
theorem map_univ_eq {α β : Type} [Fintype α] (e : α ↪ β) (A : Finset β) (h : ∀ y, e y ∈ A) (h' : ∀ i ∈ A, ∃ y, e y = i) :
    Finset.univ.map e = A := by
  ext i
  simp only [Finset.mem_map, Finset.mem_univ, true_and]
  exact ⟨fun ⟨y, e⟩ => e ▸ h y, h' i⟩

/-! ## Slots of the two-slot buffers -/

/-- Element `y` of slot `b` is element `(b, y)` of the buffer. -/
theorem slot_rect_emb (b : Fin 2) (y : S128x128.Idx) :
    (Rect.unit (s := S2x128x128) ![b.val, 0, 0] S1x128x128.size (slot_inb b)).emb
      (Shape.reshapeEquiv squeezes_S1x128x128_S128x128.numel_eq y) = (ix3 b (y 0) (y 1) : S2x128x128.Idx) := by
  obtain ⟨y0, y1, rfl⟩ : ∃ y0 y1, y = ix2 y0 y1 := ⟨y 0, y 1, eq_ix2 y⟩
  rw [reshapeEquiv_ix2_1ab]
  funext a; apply Fin.ext; rw [Rect.emb_apply]
  fin_cases a <;> simp [Rect.unit, ix3]

theorem slot_emb_x (b : Fin 2) (y : S128x128.Idx) : (slot xB b).view.emb y = (ix3 b (y 0) (y 1) : S2x128x128.Idx) := slot_rect_emb b y
theorem slot_emb_p (b : Fin 2) (y : S128x128.Idx) : (slot pB b).view.emb y = (ix3 b (y 0) (y 1) : S2x128x128.Idx) := slot_rect_emb b y
theorem slot_emb_o (b : Fin 2) (y : S128x128.Idx) : (slot oB b).view.emb y = (ix3 b (y 0) (y 1) : S2x128x128.Idx) := slot_rect_emb b y

/-- The elements of slot `b`. -/
def slotSet (b : Fin 2) : Finset S2x128x128.Idx := Finset.univ.filter fun i => (i 0).val = b.val

theorem mem_slotSet {b : Fin 2} {i : S2x128x128.Idx} : i ∈ slotSet b ↔ (i 0).val = b.val := by simp [slotSet]

theorem slot_map_set (b : Fin 2) (e : S128x128.Idx ↪ S2x128x128.Idx) (he : ∀ y, e y = ix3 b (y 0) (y 1)) :
    Finset.univ.map e = slotSet b :=
  map_univ_eq e _ (fun y => by rw [he]; exact mem_slotSet.mpr rfl) fun i h => ⟨ix2 (i 1) (i 2), (he _).trans
    ((congrArg (fun w => ix3 w (i 1) (i 2)) (Fin.ext (mem_slotSet.mp h).symm)).trans (eq_ix3 i).symm)⟩

theorem slot_set_x (b : Fin 2) : (slot xB b).view.set = slotSet b := slot_map_set b _ (slot_emb_x b)
theorem slot_set_p (b : Fin 2) : (slot pB b).view.set = slotSet b := slot_map_set b _ (slot_emb_p b)
theorem slot_set_o (b : Fin 2) : (slot oB b).view.set = slotSet b := slot_map_set b _ (slot_emb_o b)

theorem slotSet_compl : (Finset.univ : Finset S2x128x128.Idx) \ slotSet 0 = slotSet 1 := by
  ext i
  simp only [Finset.mem_sdiff, Finset.mem_univ, true_and, mem_slotSet]
  have : (i 0).val < 2 := (i 0).isLt
  show ¬ (i 0).val = 0 ↔ (i 0).val = 1
  omega

/-! ## Rows of the list of row numbers -/

/-- Element `y` of row `k` of the list is element `(k, y)`. -/
theorem lrow_emb (k : Fin 4) (y : S128.Idx) : (lrow k).view.emb y = (ix2 k (y 0) : S4x128.Idx) := by
  show (Rect.unit (s := S4x128) ![k.val, 0] S1x128.size (list_inb k)).emb
      (Shape.reshapeEquiv squeezes_S1x128_S128.numel_eq y) = (ix2 k (y 0) : S4x128.Idx)
  rw [Shape.reshapeEquiv_eq_of_rowMajor (y := (ix2 (0 : Fin 1) (y 0) : S1x128.Idx)) _ (by
    rw [Shape.rowMajor_val_two, Shape.rowMajor_val_one]
    show 0 * _ + (y 0).val = (y 0).val
    omega)]
  funext a; apply Fin.ext; rw [Rect.emb_apply]
  fin_cases a <;> simp [Rect.unit, ix2]

/-- The elements of row `k` of the list. -/
def lrowSet (k : Fin 4) : Finset S4x128.Idx := Finset.univ.filter fun i => (i 0).val = k.val

theorem mem_lrowSet {k : Fin 4} {i : S4x128.Idx} : i ∈ lrowSet k ↔ (i 0).val = k.val := by simp [lrowSet]

theorem lrow_set (k : Fin 4) : (lrow k).view.set = lrowSet k :=
  map_univ_eq (lrow k).view.emb _ (fun y => by rw [lrow_emb]; exact mem_lrowSet.mpr rfl) fun i h => ⟨ix1 (i 1), (lrow_emb _ _).trans
    ((congrArg (fun w => ix2 w (i 1)) (Fin.ext (mem_lrowSet.mp h).symm)).trans (eq_ix2 i).symm)⟩

/-! ## The tile's block of the row numbers -/

theorem wnum_lt (L : grid0.Coords) : wnum L < 32 := by have := L0_lt L; have := L1_lt L; unfold wnum; omega

/-- Element `y` of the tile's block is element `(w, y)` of the array, `w` the tile's number. -/
theorem listH_emb (L : grid0.Coords) (y : S4x128.Idx) :
    (listH L).view.emb y = (ix3 ⟨wnum L, wnum_lt L⟩ (y 0) (y 1) : S32x4x128.Idx) := by
  show (Rect.unit (s := S32x4x128) (k0_off1 L) S1x4x128.size (k0_off1_inb L)).emb
      (Shape.reshapeEquiv squeezes_S1x4x128_S4x128.numel_eq y) = _
  obtain ⟨y0, y1, rfl⟩ : ∃ y0 y1, y = ix2 y0 y1 := ⟨y 0, y 1, eq_ix2 y⟩
  rw [reshapeEquiv_ix2_1ab]
  funext a; apply Fin.ext; rw [Rect.emb_apply]
  have h := k0_off1_eq L
  fin_cases a <;> simp [Rect.unit, ix3, h, wnum]

def listSet (w : Fin 32) : Finset S32x4x128.Idx := Finset.univ.filter fun i => (i 0).val = w.val

theorem mem_listSet {w : Fin 32} {i : S32x4x128.Idx} : i ∈ listSet w ↔ (i 0).val = w.val := by simp [listSet]

theorem listH_set (L : grid0.Coords) : (listH L).view.set = listSet ⟨wnum L, wnum_lt L⟩ :=
  map_univ_eq (listH L).view.emb _ (fun y => by rw [listH_emb]; exact mem_listSet.mpr rfl) fun i h => ⟨ix2 (i 1) (i 2), (listH_emb _ _).trans
    ((congrArg (fun w => ix3 w (i 1) (i 2)) (Fin.ext (mem_listSet.mp h).symm)).trans (eq_ix3 i).symm)⟩

/-! ## The chunks of `x` and of the result -/

theorem cnum_lt (L : grid0.Coords) (r : Fin 4) : cnum L r < 128 := by
  have := L0_lt L; have := L1_lt L; have := r.isLt; unfold cnum; omega

/-- Row `y` of chunk `n` of 128 rows. -/
def crow (n : ℕ) (hn : n < 128) (y : Fin 128) : Fin 16384 := ⟨128 * n + y.val, by have := y.isLt; omega⟩

theorem chunk_rect_emb (L : grid0.Coords) (r : Fin 4) (y : S128x128.Idx) :
    (Rect.unit (s := S16384x128) (k0_off2 L (BitVec.ofNat 32 (128 * r.val))) S128x128.size (k0_off2_inb L r)).emb y
      = (ix2 (crow (cnum L r) (cnum_lt L r) (y 0)) (y 1) : S16384x128.Idx) := by
  funext a; apply Fin.ext; rw [Rect.emb_apply]
  have h := k0_off2_eq L r
  fin_cases a <;> simp [Rect.unit, ix2, h, crow, cnum] <;> omega

theorem chunk_emb_x (L : grid0.Coords) (r : Fin 4) (y : S128x128.Idx) :
    (chunkH xH L r).view.emb y = (ix2 (crow (cnum L r) (cnum_lt L r) (y 0)) (y 1) : S16384x128.Idx) := chunk_rect_emb L r y
theorem chunk_emb_o (L : grid0.Coords) (r : Fin 4) (y : S128x128.Idx) :
    (chunkH oH L r).view.emb y = (ix2 (crow (cnum L r) (cnum_lt L r) (y 0)) (y 1) : S16384x128.Idx) := chunk_rect_emb L r y

/-- The elements of chunk `n`. -/
def chunkSet (n : ℕ) : Finset S16384x128.Idx := Finset.univ.filter fun i => (i 0).val / 128 = n

theorem mem_chunkSet {n : ℕ} {i : S16384x128.Idx} : i ∈ chunkSet n ↔ (i 0).val / 128 = n := by simp [chunkSet]

theorem chunk_set_o (L : grid0.Coords) (r : Fin 4) : (chunkH oH L r).view.set = chunkSet (cnum L r) :=
  map_univ_eq (chunkH oH L r).view.emb _
    (fun y => by
      rw [chunk_emb_o]
      have : (y 0).val < 128 := (y 0).isLt
      exact mem_chunkSet.mpr (show (128 * cnum L r + (y 0).val) / 128 = _ by omega))
    fun i h => by
      have h := mem_chunkSet.mp h
      have hi : (i 0).val < 16384 := (i 0).isLt
      exact ⟨ix2 ⟨(i 0).val % 128, Nat.mod_lt _ (by decide)⟩ (i 1), (chunk_emb_o _ _ _).trans
        (Eq.trans (congrArg (fun w => ix2 w (i 1)) (Fin.ext (show 128 * cnum L r + (i 0).val % 128 = (i 0).val by omega))) (eq_ix2 i).symm)⟩

end Cert.Proof.Mix

end
-- ==== Proof.Row.lean ====
/-
  One row of the mix. A tile mixes a 128 × 128 block row by row, sixteen lanes at a time: it loads sixteen elements of
  `x`'s block and of the gathered block, and stores `alpha` times the first plus `1 - alpha` times the second. Here that
  lane step is one program (`lane`), a row is eight of them (`row`), and the rules for both keep the block's contents in
  closed form: mixed below a position, as before from it on.
-/
module

public import proofs.«01_k».proof.Proof.Places

@[expose] public section

noncomputable section

namespace Cert.Proof.Mix

open Cert.KernelIdeal Cert.KernelIdeal.Gen
open Idealize.ShloMosaic
open Idealize.ShloMosaic.ValueIdx
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Tactic

variable {F : FTy → Type} [FloatOps F]

local notation "𝕄" => MT nD τ sig (HIx 1) (Elt F) ℕ UU ℕ

/-! ## The values -/

/-- A column's place among the sixteen lanes. -/
def lane16 (c : Fin 128) : Fin 16 := ⟨c.val % 16, Nat.mod_lt _ (by decide)⟩

/-- The mix of two elements, in lane `k`. -/
def mix1 (av bv : FVec F S16 .f32) (k : Fin 16) (a b : F .f32) : F .f32 :=
  FloatOps.addf (FloatOps.mulf (av (ix1 k)) a) (FloatOps.mulf (bv (ix1 k)) b)

/-- The mix of sixteen elements with sixteen, as the tile computes it. -/
def mix16 (av bv : FVec F S16 .f32) (a b : Vec F S1x1x16 .f32) : FVec F S1x1x16 .f32 :=
  shapeCast S1x1x16 (addf (mulf av (shapeCast S16 a shapeCasts_S1x1x16_S16)) (mulf bv (shapeCast S16 b shapeCasts_S1x1x16_S16)))
    shapeCasts_S16_S1x1x16

theorem mix16_apply (av bv : FVec F S16 .f32) (a b : Vec F S1x1x16 .f32) (y : S1x1x16.Idx) :
    mix16 av bv a b y = mix1 av bv (y 2) (a y) (b y) := by
  have h0 : (y 0).val < 1 := (y 0).isLt
  have h1 : (y 1).val < 1 := (y 1).isLt
  unfold mix16
  rw [shapeCast_apply _ _ y (ix1 (y 2) : S16.Idx) (by
    rw [Shape.rowMajor_val_one, Shape.rowMajor_val_three]
    show (y 2).val = ((y 0).val * 1 + (y 1).val) * 16 + (y 2).val
    omega)]
  show FloatOps.addf (FloatOps.mulf _ (shapeCast S16 a _ (ix1 (y 2)))) (FloatOps.mulf _ (shapeCast S16 b _ (ix1 (y 2)))) = _
  have hk : (S1x1x16.rowMajor y).val = (S16.rowMajor (ix1 (y 2) : S16.Idx)).val := by
    rw [Shape.rowMajor_val_one, Shape.rowMajor_val_three]
    show ((y 0).val * 1 + (y 1).val) * 16 + (y 2).val = (y 2).val
    omega
  rw [shapeCast_apply a _ _ y hk, shapeCast_apply b _ _ y hk]
  rfl

/-- The block's contents when the first `n` elements of the slot, row by row, are mixed. -/
def mixed (av bv : FVec F S16 .f32) (fx fp fo : S2x128x128.Idx → F .f32) (n : ℕ) : S2x128x128.Idx → F .f32 :=
  fun i => if 128 * (i 1).val + (i 2).val < n then mix1 av bv (lane16 (i 2)) (fx i) (fp i) else fo i

theorem mixed_zero (av bv : FVec F S16 .f32) (fx fp fo : S2x128x128.Idx → F .f32) : mixed av bv fx fp fo 0 = fo := by
  funext i; simp [mixed]

theorem mixed_full (av bv : FVec F S16 .f32) (fx fp fo : S2x128x128.Idx → F .f32) (i : S2x128x128.Idx) :
    mixed av bv fx fp fo 16384 i = mix1 av bv (lane16 (i 2)) (fx i) (fp i) := by
  have h1 : (i 1).val < 128 := (i 1).isLt
  have h2 : (i 2).val < 128 := (i 2).isLt
  unfold mixed; rw [if_pos (by omega)]

/-! ## The lane step's box -/

abbrev laneRect (off : Fin 3 → ℕ) (inb : ∀ a, off a + S1x1x16.size a ≤ S2x128x128.size a) : Rect S2x128x128 :=
  Rect.unit (s := S2x128x128) off S1x1x16.size inb

theorem mem_laneRect {b t j : ℕ} {inb : ∀ a, (![b, t, 16 * j] : Fin 3 → ℕ) a + S1x1x16.size a ≤ S2x128x128.size a} {i : S2x128x128.Idx} :
    i ∈ (laneRect ![b, t, 16 * j] inb).set ↔ (i 0).val = b ∧ (i 1).val = t ∧ (i 2).val / 16 = j := by
  rw [Rect.mem_set_unit, Fin.forall_fin_succ, Fin.forall_fin_succ, Fin.forall_fin_succ]
  show ((b ≤ (i 0).val ∧ (i 0).val < b + 1) ∧ (t ≤ (i 1).val ∧ (i 1).val < t + 1) ∧ (16 * j ≤ (i 2).val ∧ (i 2).val < 16 * j + 16) ∧ _) ↔ _
  simp only [IsEmpty.forall_iff, and_true]
  omega

theorem laneRect_emb {b t j : ℕ} {inb : ∀ a, (![b, t, 16 * j] : Fin 3 → ℕ) a + S1x1x16.size a ≤ S2x128x128.size a} (y : S1x1x16.Idx) :
    (((laneRect ![b, t, 16 * j] inb).emb y 0).val = b ∧ ((laneRect ![b, t, 16 * j] inb).emb y 1).val = t)
      ∧ ((laneRect ![b, t, 16 * j] inb).emb y 2).val = 16 * j + (y 2).val := by
  have h0 : (y 0).val < 1 := (y 0).isLt
  have h1 : (y 1).val < 1 := (y 1).isLt
  rw [Rect.emb_apply, Rect.emb_apply, Rect.emb_apply]
  show (b + 1 * (y 0).val = b ∧ t + 1 * (y 1).val = t) ∧ 16 * j + 1 * (y 2).val = 16 * j + (y 2).val
  omega

/-- Storing the lane step's mix moves the mixed part on by sixteen elements. -/
theorem mixed_store (av bv : FVec F S16 .f32) (fx fp fo : S2x128x128.Idx → F .f32) (b : Fin 2) (t j : ℕ) (hj : j < 8)
    (inb : ∀ a, (![b.val, t, 16 * j] : Fin 3 → ℕ) a + S1x1x16.size a ≤ S2x128x128.size a) (i : S2x128x128.Idx) (hi : i ∈ slotSet b) :
    (oB.access (laneRect ![b.val, t, 16 * j] inb)).write (Elt F) (mixed av bv fx fp fo (128 * t + 16 * j))
        (mix16 av bv ((xB.access (laneRect ![b.val, t, 16 * j] inb)).read (Elt F) fx)
          ((pB.access (laneRect ![b.val, t, 16 * j] inb)).read (Elt F) fp)) Finset.univ i
      = mixed av bv fx fp fo (128 * t + 16 * (j + 1)) i := by
  have h2 : (i 2).val < 128 := (i 2).isLt
  by_cases h : i ∈ (laneRect ![b.val, t, 16 * j] inb).set
  · obtain ⟨_, ht, hc⟩ := mem_laneRect.mp h
    rw [← Rect.map_emb_univ] at h
    obtain ⟨y, -, rfl⟩ := Finset.mem_map.mp h
    have hy := (laneRect_emb (inb := inb) y).2
    have hy2 : (y 2).val < 16 := (y 2).isLt
    refine (View.write_emb_of_mem (v := oB.access (laneRect ![b.val, t, 16 * j] inb)) _ _ (Finset.mem_univ y)).trans ?_
    refine (cast_eq _ _).trans ((mix16_apply av bv _ _ y).trans ?_)
    unfold mixed
    rw [if_pos (by omega)]
    refine congrArg (fun k => mix1 av bv k (fx _) (fp _)) (Fin.ext ?_)
    show (y 2).val = ((laneRect ![b.val, t, 16 * j] inb).emb y 2).val % 16
    omega
  · refine (View.write_of_not_mem (v := oB.access (laneRect ![b.val, t, 16 * j] inb)) _ _ _ ?_).trans ?_
    · rw [View.setOn_univ, View.set_slice]
      exact fun hm => h (by obtain ⟨z, hz, e⟩ := Finset.mem_map.mp hm; exact e ▸ hz)
    · have hb := mem_slotSet.mp hi
      have hn : ¬ ((i 1).val = t ∧ (i 2).val / 16 = j) := fun h' => h (mem_laneRect.mpr ⟨hb, h'.1, h'.2⟩)
      unfold mixed
      by_cases hlt : 128 * (i 1).val + (i 2).val < 128 * t + 16 * j
      · rw [if_pos hlt, if_pos (by omega)]
      · rw [if_neg hlt, if_neg (by omega)]

/-! ## The program and its rule -/

/-- One lane step: sixteen elements of `x`'s block and of the gathered block, mixed into the result's block. -/
def lane (L : grid0.Coords) (av bv : FVec F S16 .f32) (off : Fin 3 → ℕ) (inb : ∀ a, off a + S1x1x16.size a ≤ S2x128x128.size a) :
    Prog (TpuEff nD τ sig (Elt F) Λ₀ (.scVector (cV L) (jV L))) PUnit := do
  let a : Vec F S1x1x16 .f32 ← Prog.lift (.load xB (laneRect off inb).toLoadRect (View.loadsAt_vmem h_S1x1x16))
  let b : Vec F S1x1x16 .f32 ← Prog.lift (.load pB (laneRect off inb).toLoadRect (View.loadsAt_vmem h_S1x1x16))
  let _ : Vec F S1x1x16 .f32 ← Prog.lift (.load oB (laneRect off inb).toLoadRect (View.loadsAt_vmem h_S1x1x16))
  Prog.lift (.store oB (laneRect off inb) (mix16 av bv a b) Finset.univ (View.stores_vmem_bits_univ h_S1x1x16 rfl) (.inl rfl))

/-- Lane steps in order: a row is eight of them. -/
def lanes (L : grid0.Coords) (av bv : FVec F S16 .f32) : (n : ℕ) → (off : Fin n → Fin 3 → ℕ) →
    (∀ j a, off j a + S1x1x16.size a ≤ S2x128x128.size a) → Prog (TpuEff nD τ sig (Elt F) Λ₀ (.scVector (cV L) (jV L))) PUnit
  | 0, _, _ => pure ⟨⟩
  | n + 1, off, inb => do
    lane L av bv (off 0) (inb 0)
    lanes L av bv n (fun j => off j.succ) (fun j => inb j.succ)

/-- Slot `b` of the three blocks, the result's with its first `n` elements mixed. -/
def Mixing (d : Dev nD) (L : grid0.Coords) (b : Fin 2) (av bv : FVec F S16 .f32) (fx fp fo : S2x128x128.Idx → F .f32) (n : ℕ) : sProp 𝕄 :=
  iprop((xB.view.loc (tV d L) ↦[slotSet b]{fullShare} fx) ∗ (pB.view.loc (tV d L) ↦[slotSet b]{fullShare} fp)
    ∗ (oB.view.loc (tV d L) ↦[slotSet b]{fullShare} mixed av bv fx fp fo n))

variable (d : Dev nD) (L : grid0.Coords)

theorem laneRect_sub (b : Fin 2) (t j : ℕ) (inb : ∀ a, (![b.val, t, 16 * j] : Fin 3 → ℕ) a + S1x1x16.size a ≤ S2x128x128.size a) :
    (laneRect ![b.val, t, 16 * j] inb).set ⊆ slotSet b := fun _ h => mem_slotSet.mpr (mem_laneRect.mp h).1

theorem laneRect_sub' (b : Fin 2) (t j : ℕ) (inb : ∀ a, (![b.val, t, 16 * j] : Fin 3 → ℕ) a + S1x1x16.size a ≤ S2x128x128.size a) :
    (laneRect ![b.val, t, 16 * j] inb).set.map (Function.Embedding.refl _) ⊆ slotSet b := by
  rw [Finset.map_refl]; exact laneRect_sub b t j inb

theorem access_sub_x (b : Fin 2) (t j : ℕ) (inb : ∀ a, (![b.val, t, 16 * j] : Fin 3 → ℕ) a + S1x1x16.size a ≤ S2x128x128.size a) :
    (xB.access (laneRect ![b.val, t, 16 * j] inb)).set ⊆ slotSet b := by
  rw [View.set_slice]; exact laneRect_sub' b t j inb
theorem access_sub_p (b : Fin 2) (t j : ℕ) (inb : ∀ a, (![b.val, t, 16 * j] : Fin 3 → ℕ) a + S1x1x16.size a ≤ S2x128x128.size a) :
    (pB.access (laneRect ![b.val, t, 16 * j] inb)).set ⊆ slotSet b := by
  rw [View.set_slice]; exact laneRect_sub' b t j inb
theorem access_sub_o (b : Fin 2) (t j : ℕ) (inb : ∀ a, (![b.val, t, 16 * j] : Fin 3 → ℕ) a + S1x1x16.size a ≤ S2x128x128.size a) :
    (oB.access (laneRect ![b.val, t, 16 * j] inb)).set ⊆ slotSet b := by
  rw [View.set_slice]; exact laneRect_sub' b t j inb

/-- A lane step at the head of a program, its four accesses spelt out. -/
theorem lane_bind (av bv : FVec F S16 .f32) (off : Fin 3 → ℕ) (inb : ∀ a, off a + S1x1x16.size a ≤ S2x128x128.size a)
    {α : Type} (k : PUnit → Prog (TpuEff nD τ sig (Elt F) Λ₀ (.scVector (cV L) (jV L))) α) :
    lane L av bv off inb >>= k = .op (.load xB (laneRect off inb).toLoadRect (View.loadsAt_vmem h_S1x1x16)) fun a =>
      .op (.load pB (laneRect off inb).toLoadRect (View.loadsAt_vmem h_S1x1x16)) fun b =>
      .op (.load oB (laneRect off inb).toLoadRect (View.loadsAt_vmem h_S1x1x16)) fun _ =>
      .op (.store oB (laneRect off inb) (mix16 av bv a b) Finset.univ (View.stores_vmem_bits_univ h_S1x1x16 rfl) (.inl rfl)) k := rfl

/-- A lane step takes the mixed part from position `128 t + 16 j` to the next multiple of sixteen. -/
theorem wp_lane (b : Fin 2) (av bv : FVec F S16 .f32) (fx fp fo : S2x128x128.Idx → F .f32) (t j : ℕ) (hj : j < 8) (off : Fin 3 → ℕ)
    (inb : ∀ a, off a + S1x1x16.size a ≤ S2x128x128.size a) (hoff : off = ![b.val, t, 16 * j])
    {α : Type} {k : PUnit → Prog (TpuEff nD τ sig (Elt F) Λ₀ (.scVector (cV L) (jV L))) α} {Q : α → sProp 𝕄} :
    Mixing d L b av bv fx fp fo (128 * t + 16 * j)
      ⊢ iprop((Mixing d L b av bv fx fp fo (128 * t + 16 * (j + 1)) -∗ wp frame (wpE (defs₀ (F := F)) 𝒱₀ (tV d L) none) Set.univ (k ⟨⟩) Q)
          -∗ wp frame (wpE (defs₀ (F := F)) 𝒱₀ (tV d L) none) Set.univ (lane L av bv off inb >>= k) Q) := by
  subst hoff
  unfold Mixing
  rw [lane_bind]
  iintro ⟨Hx, Hp, Ho⟩ Hk
  iapply (wp_load_rect 𝒱₀ (tV d L) none Set.univ (m := xB) (r := laneRect ![b.val, t, 16 * j] inb) (S := slotSet b) (access_sub_x b t j inb)) $$ Hx
  iintro Hx
  iapply (wp_load_rect 𝒱₀ (tV d L) none Set.univ (m := pB) (r := laneRect ![b.val, t, 16 * j] inb) (S := slotSet b) (access_sub_p b t j inb)) $$ Hp
  iintro Hp
  iapply (wp_load_rect 𝒱₀ (tV d L) none Set.univ (m := oB) (r := laneRect ![b.val, t, 16 * j] inb) (S := slotSet b) (access_sub_o b t j inb)) $$ Ho
  iintro Ho
  iapply (wp_store 𝒱₀ (tV d L) none Set.univ (m := oB) (r := laneRect ![b.val, t, 16 * j] inb) (S := slotSet b) (by rw [View.setOn_univ]; exact access_sub_o b t j inb)) $$ Ho
  iintro Ho
  iapply Hk
  isplitl [Hx]; · iexact Hx
  isplitl [Hp]; · iexact Hp
  iapply (Entails.of_eq (pointsTo_congr (mixed_store av bv fx fp fo b t j hj inb)))
  iexact Ho

/-- `n` lane steps from position `j₀` of row `t`. -/
theorem wp_lanes (b : Fin 2) (av bv : FVec F S16 .f32) (fx fp fo : S2x128x128.Idx → F .f32) (t : ℕ)
    {α : Type} {k : PUnit → Prog (TpuEff nD τ sig (Elt F) Λ₀ (.scVector (cV L) (jV L))) α} {Q : α → sProp 𝕄} :
    ∀ (n j₀ : ℕ) (off : Fin n → Fin 3 → ℕ) (inb : ∀ j a, off j a + S1x1x16.size a ≤ S2x128x128.size a)
      (_ : ∀ j : Fin n, off j = ![b.val, t, 16 * (j₀ + j.val)]) (_ : j₀ + n ≤ 8),
    Mixing d L b av bv fx fp fo (128 * t + 16 * j₀)
      ⊢ iprop((Mixing d L b av bv fx fp fo (128 * t + 16 * (j₀ + n)) -∗ wp frame (wpE (defs₀ (F := F)) 𝒱₀ (tV d L) none) Set.univ (k ⟨⟩) Q)
          -∗ wp frame (wpE (defs₀ (F := F)) 𝒱₀ (tV d L) none) Set.univ (lanes L av bv n off inb >>= k) Q)
  | 0, j₀, off, inb, _, _ => by
    iintro H Hk
    iapply Hk
    iexact H
  | n + 1, j₀, off, inb, hoff, hn => by
    have hlen : j₀ + (n + 1) = j₀ + 1 + n := by omega
    show _ ⊢ iprop(_ -∗ wp frame _ _ (lane L av bv (off 0) (inb 0) >>= fun _ => lanes L av bv n (fun j => off j.succ) (fun j => inb j.succ) >>= k) _)
    iintro H Hk
    iapply (wp_lane d L b av bv fx fp fo t j₀ (by omega) (off 0) (inb 0) (hoff 0)) $$ H
    iintro H
    rw [hlen]
    iapply (wp_lanes b av bv fx fp fo t n (j₀ + 1) (fun j => off j.succ) (fun j => inb j.succ)
      (fun j => (hoff j.succ).trans (by rw [Fin.val_succ, show j₀ + (j.val + 1) = j₀ + 1 + j.val by omega])) (by omega)) $$ H
    iexact Hk

/-- A loop of 128 rows mixes the whole slot. -/
theorem wp_rows (b : Fin 2) (av bv : FVec F S16 .f32) (fx fp fo : S2x128x128.Idx → F .f32) (l : Scf.Loop 32) (hok : l.OK) (hl : l.trips = 128)
    (body : Fin l.trips → Unit → Prog (TpuEff nD τ sig (Elt F) Λ₀ (.scVector (cV L) (jV L))) Unit) (off : Fin l.trips → Fin 8 → Fin 3 → ℕ)
    (inb : ∀ t j a, off t j a + S1x1x16.size a ≤ S2x128x128.size a) (hoff : ∀ t j, off t j = ![b.val, t.val, 16 * j.val])
    (hbody : ∀ t, body t ⟨⟩ = lanes L av bv 8 (off t) (inb t))
    {α : Type} {k : Unit → Prog (TpuEff nD τ sig (Elt F) Λ₀ (.scVector (cV L) (jV L))) α} {Q : α → sProp 𝕄} :
    Mixing d L b av bv fx fp fo 0
      ⊢ iprop((Mixing d L b av bv fx fp fo 16384 -∗ wp frame (wpE (defs₀ (F := F)) 𝒱₀ (tV d L) none) Set.univ (k ⟨⟩) Q)
          -∗ wp frame (wpE (defs₀ (F := F)) 𝒱₀ (tV d L) none) Set.univ (Scf.Loop.for l hok ⟨⟩ body >>= k) Q) := by
  iintro H Hk
  iapply (Scf.wp_for_bind frame (wpE (defs₀ (F := F)) 𝒱₀ (tV d L) none) Set.univ l.lb l.ub l.st hok ⟨⟩ body
    (fun n _ => Mixing d L b av bv fx fp fo (128 * n)) (fun t _ => by
      rw [hbody t]
      have h := wp_lanes d L b av bv fx fp fo t.val (k := fun u => pure u) (Q := fun _ => Mixing d L b av bv fx fp fo (128 * (t.val + 1)))
        8 0 (off t) (inb t) (fun j => (hoff t j).trans (by rw [Nat.zero_add])) (by omega)
      rw [bind_pure] at h
      iintro H
      iapply h $$ H
      iintro H
      rw [wp_pure]
      imodintro
      iexact H)) $$ H
  iintro %acc H
  iapply Hk
  rw [show Scf.trips l.lb l.ub l.st = 128 from hl]
  iexact H

/-! ## The four loops of the tile -/

/-- The offsets of loop 1's lane steps in row `t`. -/
def off1 (t : Fin k0_t1_loop.trips) : Fin 8 → Fin 3 → ℕ := ![k0_off3 t, k0_off4 t, k0_off5 t, k0_off6 t, k0_off7 t, k0_off8 t, k0_off9 t, k0_off10 t]
theorem off1_eq (t : Fin k0_t1_loop.trips) (j : Fin 8) : off1 t j = ![0, t.val, 16 * j.val] := by
  fin_cases j
  exacts [k0_off3_eq t, k0_off4_eq t, k0_off5_eq t, k0_off6_eq t, k0_off7_eq t, k0_off8_eq t, k0_off9_eq t, k0_off10_eq t]
theorem off1_inb (t : Fin k0_t1_loop.trips) (j : Fin 8) : ∀ a, off1 t j a + S1x1x16.size a ≤ S2x128x128.size a := by
  fin_cases j
  exacts [k0_off3_inb t, k0_off4_inb t, k0_off5_inb t, k0_off6_inb t, k0_off7_inb t, k0_off8_inb t, k0_off9_inb t, k0_off10_inb t]
/-- Loop 1's body is eight lane steps. -/
theorem body1_eq (v2 : BitVec 32) (av bv : FVec F S16 .f32) (t : Fin k0_t1_loop.trips) :
    k0_t1_body (F := F) L xH (Memref.isWhole_whole _) rH (Memref.isWhole_whole _) sH (Memref.isWhole_whole _) oH (Memref.isWhole_whole _) idxB (Memref.isWhole_whole _)
      xB (Memref.isWhole_whole _) pB (Memref.isWhole_whole _) oB (Memref.isWhole_whole _) aB (Memref.isWhole_whole _)
      cc0_scratch5 cc0_scratch6 cc0_scratch7 cc0_scratch8 cc0_scratch9 cc0_scratch10 cc0_scratch11 cc0_scratch12 v2 av bv 0#32 t ⟨⟩
      = lanes L av bv 8 (off1 t) (off1_inb t) := rfl

/-- The offsets of loop 2's lane steps in row `t`. -/
def off2 (t : Fin k0_t2_loop.trips) : Fin 8 → Fin 3 → ℕ := ![k0_off11 t, k0_off12 t, k0_off13 t, k0_off14 t, k0_off15 t, k0_off16 t, k0_off17 t, k0_off18 t]
theorem off2_eq (t : Fin k0_t2_loop.trips) (j : Fin 8) : off2 t j = ![1, t.val, 16 * j.val] := by
  fin_cases j
  exacts [k0_off11_eq t, k0_off12_eq t, k0_off13_eq t, k0_off14_eq t, k0_off15_eq t, k0_off16_eq t, k0_off17_eq t, k0_off18_eq t]
theorem off2_inb (t : Fin k0_t2_loop.trips) (j : Fin 8) : ∀ a, off2 t j a + S1x1x16.size a ≤ S2x128x128.size a := by
  fin_cases j
  exacts [k0_off11_inb t, k0_off12_inb t, k0_off13_inb t, k0_off14_inb t, k0_off15_inb t, k0_off16_inb t, k0_off17_inb t, k0_off18_inb t]
/-- Loop 2's body is eight lane steps. -/
theorem body2_eq (v2 : BitVec 32) (av bv : FVec F S16 .f32) (t : Fin k0_t2_loop.trips) :
    k0_t2_body (F := F) L xH (Memref.isWhole_whole _) rH (Memref.isWhole_whole _) sH (Memref.isWhole_whole _) oH (Memref.isWhole_whole _) idxB (Memref.isWhole_whole _)
      xB (Memref.isWhole_whole _) pB (Memref.isWhole_whole _) oB (Memref.isWhole_whole _) aB (Memref.isWhole_whole _)
      cc0_scratch5 cc0_scratch6 cc0_scratch7 cc0_scratch8 cc0_scratch9 cc0_scratch10 cc0_scratch11 cc0_scratch12 v2 av bv t ⟨⟩
      = lanes L av bv 8 (off2 t) (off2_inb t) := rfl

/-- The offsets of loop 3's lane steps in row `t`. -/
def off3 (t : Fin k0_t3_loop.trips) : Fin 8 → Fin 3 → ℕ := ![k0_off19 t, k0_off20 t, k0_off21 t, k0_off22 t, k0_off23 t, k0_off24 t, k0_off25 t, k0_off26 t]
theorem off3_eq (t : Fin k0_t3_loop.trips) (j : Fin 8) : off3 t j = ![0, t.val, 16 * j.val] := by
  fin_cases j
  exacts [k0_off19_eq t, k0_off20_eq t, k0_off21_eq t, k0_off22_eq t, k0_off23_eq t, k0_off24_eq t, k0_off25_eq t, k0_off26_eq t]
theorem off3_inb (t : Fin k0_t3_loop.trips) (j : Fin 8) : ∀ a, off3 t j a + S1x1x16.size a ≤ S2x128x128.size a := by
  fin_cases j
  exacts [k0_off19_inb t, k0_off20_inb t, k0_off21_inb t, k0_off22_inb t, k0_off23_inb t, k0_off24_inb t, k0_off25_inb t, k0_off26_inb t]
/-- Loop 3's body is eight lane steps. -/
theorem body3_eq (v2 : BitVec 32) (av bv : FVec F S16 .f32) (t : Fin k0_t3_loop.trips) :
    k0_t3_body (F := F) L xH (Memref.isWhole_whole _) rH (Memref.isWhole_whole _) sH (Memref.isWhole_whole _) oH (Memref.isWhole_whole _) idxB (Memref.isWhole_whole _)
      xB (Memref.isWhole_whole _) pB (Memref.isWhole_whole _) oB (Memref.isWhole_whole _) aB (Memref.isWhole_whole _)
      cc0_scratch5 cc0_scratch6 cc0_scratch7 cc0_scratch8 cc0_scratch9 cc0_scratch10 cc0_scratch11 cc0_scratch12 v2 av bv t ⟨⟩
      = lanes L av bv 8 (off3 t) (off3_inb t) := rfl

/-- The offsets of loop 4's lane steps in row `t`. -/
def off4 (t : Fin k0_t4_loop.trips) : Fin 8 → Fin 3 → ℕ := ![k0_off27 t, k0_off28 t, k0_off29 t, k0_off30 t, k0_off31 t, k0_off32 t, k0_off33 t, k0_off34 t]
theorem off4_eq (t : Fin k0_t4_loop.trips) (j : Fin 8) : off4 t j = ![1, t.val, 16 * j.val] := by
  fin_cases j
  exacts [k0_off27_eq t, k0_off28_eq t, k0_off29_eq t, k0_off30_eq t, k0_off31_eq t, k0_off32_eq t, k0_off33_eq t, k0_off34_eq t]
theorem off4_inb (t : Fin k0_t4_loop.trips) (j : Fin 8) : ∀ a, off4 t j a + S1x1x16.size a ≤ S2x128x128.size a := by
  fin_cases j
  exacts [k0_off27_inb t, k0_off28_inb t, k0_off29_inb t, k0_off30_inb t, k0_off31_inb t, k0_off32_inb t, k0_off33_inb t, k0_off34_inb t]
/-- Loop 4's body is eight lane steps. -/
theorem body4_eq (v2 : BitVec 32) (av bv : FVec F S16 .f32) (t : Fin k0_t4_loop.trips) :
    k0_t4_body (F := F) L xH (Memref.isWhole_whole _) rH (Memref.isWhole_whole _) sH (Memref.isWhole_whole _) oH (Memref.isWhole_whole _) idxB (Memref.isWhole_whole _)
      xB (Memref.isWhole_whole _) pB (Memref.isWhole_whole _) oB (Memref.isWhole_whole _) aB (Memref.isWhole_whole _)
      cc0_scratch5 cc0_scratch6 cc0_scratch7 cc0_scratch8 cc0_scratch9 cc0_scratch10 cc0_scratch11 cc0_scratch12 av bv t ⟨⟩
      = lanes L av bv 8 (off4 t) (off4_inb t) := rfl

end Cert.Proof.Mix

end
-- ==== Proof.Program.lean ====
/-
  The tile's program, step by step in the terms of this proof: chunk `r` of the tile's rows goes through slot
  `r mod 2` of the three two-slot buffers. Its `x` rows are copied in (`fetch`), the rows that its part of the list names
  are gathered (`gather`), the two are mixed (a loop of `lanes`), and the mix is copied out (`put`). That this is the
  kernel's body holds by unfolding.
-/
module

public import proofs.«01_k».proof.Proof.Row

@[expose] public section

noncomputable section

namespace Cert.Proof.Mix

open Cert.KernelIdeal Cert.KernelIdeal.Gen
open Idealize.ShloMosaic
open Idealize.ShloMosaic.ValueIdx
open Idealize.SL.Sem

variable {F : FTy → Type} [FloatOps F]

/-- The programs of the tile at grid coordinates `L`. -/
abbrev TileProg (F : FTy → Type) (L : grid0.Coords) (α : Type) := Prog (TpuEff nD τ sig (Elt F) Λ₀ (.scVector (cV L) (jV L))) α

/-- The slot that chunk `r` goes through. -/
def slotOf : Fin 4 → Fin 2 := ![0, 1, 0, 1]

/-- The semaphores of a slot: its gather's, its `x` copy's, its result copy's. -/
abbrev gSem : Fin 2 → DmaSem sig := ![cc0_scratch7.sem, cc0_scratch8.sem]
abbrev xSem : Fin 2 → DmaSem sig := ![cc0_scratch9.sem, cc0_scratch10.sem]
abbrev oSem : Fin 2 → DmaSem sig := ![cc0_scratch11.sem, cc0_scratch12.sem]

variable (L : grid0.Coords)

/-- Start the copy of `alpha`. -/
def alphaIn : TileProg F L PUnit :=
  Prog.lift (.enqueueDma sH (.here aB) (.dma cc0_scratch5.sem) (Memref.isWhole_whole _).wordExact (Memref.isWhole_whole _).wordExact ⟨Or.inl rfl, trivial⟩)
/-- Wait for it. -/
def alphaWait : TileProg F L PUnit :=
  Prog.lift (.waitDma2 cc0_scratch5.sem sH aB (Memref.isWhole_whole _).wordExact (Memref.isWhole_whole _).wordExact)
/-- Start the copy of the tile's row numbers. -/
def listIn : TileProg F L PUnit :=
  Prog.lift (.enqueueDma (listH L) (.here idxB) (.dma cc0_scratch6.sem) ((View.wordExact_bits rfl).reshape _ _) (Memref.isWhole_whole _).wordExact ⟨Or.inl rfl, trivial⟩)
/-- Wait for it. -/
def listWait : TileProg F L PUnit :=
  Prog.lift (.waitDma2 cc0_scratch6.sem (listH L) idxB ((View.wordExact_bits rfl).reshape _ _) (Memref.isWhole_whole _).wordExact)
/-- Start the copy of chunk `r` of `x`. -/
def fetch (r : Fin 4) (b : Fin 2) : TileProg F L PUnit :=
  Prog.lift (.enqueueDma (chunkH xH L r) (.here (slot xB b)) (.dma (xSem b)) (View.wordExact_bits rfl) ((View.wordExact_bits rfl).reshape _ _) ⟨Or.inl rfl, trivial⟩)
/-- Wait for it. -/
def fetchWait (r : Fin 4) (b : Fin 2) : TileProg F L PUnit :=
  Prog.lift (.waitDma2 (xSem b) (chunkH xH L r) (slot xB b) (View.wordExact_bits rfl) ((View.wordExact_bits rfl).reshape _ _))
/-- Start the gather of the rows that row `r` of the list names. -/
def gather (r : Fin 4) (b : Fin 2) : TileProg F L PUnit :=
  SparseCore.enqueueIndirectGather rfl allH (slot pB b) gathers_S16384x128_S128x128 (lrow r) rfl (gSem b) (View.wordExact_bits rfl) rfl (Or.inl rfl)
/-- Wait for it. -/
def gatherWait (b : Fin 2) : TileProg F L PUnit :=
  SparseCore.waitIndirectGather (gSem b) allH (slot pB b) (View.wordExact_bits rfl) ((View.wordExact_bits rfl).reshape _ _)
/-- Start the copy of the mixed chunk `r` to the result. -/
def put (r : Fin 4) (b : Fin 2) : TileProg F L PUnit :=
  Prog.lift (.enqueueDma (slot oB b) (.here (chunkH oH L r)) (.dma (oSem b)) ((View.wordExact_bits rfl).reshape _ _) (View.wordExact_bits rfl) ⟨Or.inl rfl, trivial⟩)
/-- Wait for it. -/
def putWait (r : Fin 4) (b : Fin 2) : TileProg F L PUnit :=
  Prog.lift (.waitDma2 (oSem b) (slot oB b) (chunkH oH L r) ((View.wordExact_bits rfl).reshape _ _) (View.wordExact_bits rfl))
/-- Read `alpha`. -/
def alphaRead : TileProg F L (Vec F S16 .f32) :=
  Prog.lift (.load aB (Rect.unit (s := S16) ![0] S16.size inb_S16_S16_0).toLoadRect (View.loadsAt_vmem h_S16))

/-- The mixing loops, of slots 0, 1, 0, 1. -/
def loop1 (av bv : FVec F S16 .f32) : TileProg F L Unit :=
  Scf.Loop.for k0_t1_loop k0_t1_ok ⟨⟩ fun t _ => lanes L av bv 8 (off1 t) (off1_inb t)
def loop2 (av bv : FVec F S16 .f32) : TileProg F L Unit :=
  Scf.Loop.for k0_t2_loop k0_t2_ok ⟨⟩ fun t _ => lanes L av bv 8 (off2 t) (off2_inb t)
def loop3 (av bv : FVec F S16 .f32) : TileProg F L Unit :=
  Scf.Loop.for k0_t3_loop k0_t3_ok ⟨⟩ fun t _ => lanes L av bv 8 (off3 t) (off3_inb t)
def loop4 (av bv : FVec F S16 .f32) : TileProg F L Unit :=
  Scf.Loop.for k0_t4_loop k0_t4_ok ⟨⟩ fun t _ => lanes L av bv 8 (off4 t) (off4_inb t)

/-- The tile's program. -/
def tileProg : TileProg F L PUnit := do
  alphaIn L
  listIn L
  fetch L 0 0
  fetch L 1 1
  listWait L
  gather L 0 0
  gather L 1 1
  alphaWait L
  let v : Vec F S16 .f32 ← alphaRead L
  gatherWait L 0
  fetchWait L 0 0
  let _ ← loop1 L (k0_pay41 v) (k0_pay42 v)
  put L 0 0
  gather L 2 0
  fetch L 2 0
  gatherWait L 1
  fetchWait L 1 1
  let _ ← loop2 L (k0_pay41 v) (k0_pay42 v)
  put L 1 1
  gather L 3 1
  fetch L 3 1
  gatherWait L 0
  fetchWait L 2 0
  putWait L 0 0
  let _ ← loop3 L (k0_pay41 v) (k0_pay42 v)
  put L 2 0
  gatherWait L 1
  fetchWait L 3 1
  putWait L 1 1
  let _ ← loop4 L (k0_pay41 v) (k0_pay42 v)
  put L 3 1
  putWait L 2 0
  putWait L 3 1
  pure ⟨⟩

set_option maxRecDepth 65536 in
/-- The kernel's body on its arrays and scratch is the program above, its loops' continuations nested. -/
theorem tileProg_nested :
    cc0__mix_body (F := F) L xH (Memref.isWhole_whole _) rH (Memref.isWhole_whole _) sH (Memref.isWhole_whole _) oH (Memref.isWhole_whole _)
      idxB (Memref.isWhole_whole _) xB (Memref.isWhole_whole _) pB (Memref.isWhole_whole _) oB (Memref.isWhole_whole _) aB (Memref.isWhole_whole _)
      cc0_scratch5 cc0_scratch6 cc0_scratch7 cc0_scratch8 cc0_scratch9 cc0_scratch10 cc0_scratch11 cc0_scratch12
    = (do
      alphaIn L; listIn L; fetch L 0 0; fetch L 1 1; listWait L; gather L 0 0; gather L 1 1; alphaWait L
      let v : Vec F S16 .f32 ← alphaRead L
      gatherWait L 0; fetchWait L 0 0
      (do let _ ← loop1 L (k0_pay41 v) (k0_pay42 v); put L 0 0; gather L 2 0; fetch L 2 0; pure ⟨⟩)
      (do gatherWait L 1; fetchWait L 1 1; let _ ← loop2 L (k0_pay41 v) (k0_pay42 v); put L 1 1; gather L 3 1; pure ⟨⟩)
      (do fetch L 3 1; gatherWait L 0; fetchWait L 2 0; putWait L 0 0; let _ ← loop3 L (k0_pay41 v) (k0_pay42 v); pure ⟨⟩)
      (do put L 2 0; gatherWait L 1; fetchWait L 3 1; putWait L 1 1; let _ ← loop4 L (k0_pay41 v) (k0_pay42 v); pure ⟨⟩)
      put L 3 1; putWait L 2 0; putWait L 3 1; pure ⟨⟩ : TileProg F L PUnit) := rfl

/-- The kernel's body on its arrays and scratch is the program above. -/
theorem tileProg_eq :
    cc0__mix_body (F := F) L xH (Memref.isWhole_whole _) rH (Memref.isWhole_whole _) sH (Memref.isWhole_whole _) oH (Memref.isWhole_whole _)
      idxB (Memref.isWhole_whole _) xB (Memref.isWhole_whole _) pB (Memref.isWhole_whole _) oB (Memref.isWhole_whole _) aB (Memref.isWhole_whole _)
      cc0_scratch5 cc0_scratch6 cc0_scratch7 cc0_scratch8 cc0_scratch9 cc0_scratch10 cc0_scratch11 cc0_scratch12
    = tileProg L := by
  rw [tileProg_nested]; unfold tileProg
  simp only [bind_assoc, pure_bind]

end Cert.Proof.Mix

end
-- ==== Proof.Parts.lean ====
/-
  An array held whole is its parts held: the two slots of a buffer, the four rows of the list, the 128 chunks of the
  result, and the shares of an operand that several copies read at once.
-/
module

public import proofs.«01_k».proof.Proof.Places

@[expose] public section

noncomputable section

namespace Cert.Proof.Mix

open Cert.KernelIdeal Cert.KernelIdeal.Gen
open Idealize.ShloMosaic
open Idealize.ShloMosaic.ValueIdx
open Idealize.ShloMosaic.SparseCore (S V T)
open Idealize.ShloMosaic.SparseCore.Cfg (HIx Pay ownCells mem_ownCells ownRefs ownSems0 ownBufs)
open Idealize.SL Idealize.SL.RA Idealize.SL.BI
open scoped Idealize.SL.BI
open Idealize.SL.BI.BIBase Idealize.SL.BI.Laws Idealize.SL.ProofMode Idealize.SL.Sem
open Idealize.ShloMosaic.Tactic

variable {F : FTy → Type}

local notation "𝕄" => MT nD τ sig (HIx 1) (Elt F) ℕ UU ℕ

/-- A separating product over four. -/
theorem bigSep_four {M : Type} [URA M] (Φ : Fin 4 → sProp M) : bigSep Finset.univ Φ = iprop(Φ 0 ∗ Φ 1 ∗ Φ 2 ∗ Φ 3) := by
  rw [show (Finset.univ : Finset (Fin 4)) = {0, 1, 2, 3} by decide, SparseCore.bigSep_insert' (by decide), SparseCore.bigSep_insert' (by decide),
    SparseCore.bigSep_insert' (by decide), bigSep_singleton]

/-- A separating product over eight. -/
theorem bigSep_eight {M : Type} [URA M] (Φ : Fin 8 → sProp M) :
    bigSep Finset.univ Φ = iprop(Φ 0 ∗ Φ 1 ∗ Φ 2 ∗ Φ 3 ∗ Φ 4 ∗ Φ 5 ∗ Φ 6 ∗ Φ 7) := by
  rw [show (Finset.univ : Finset (Fin 8)) = {0, 1, 2, 3, 4, 5, 6, 7} by decide, SparseCore.bigSep_insert' (by decide), SparseCore.bigSep_insert' (by decide),
    SparseCore.bigSep_insert' (by decide), SparseCore.bigSep_insert' (by decide), SparseCore.bigSep_insert' (by decide),
    SparseCore.bigSep_insert' (by decide), SparseCore.bigSep_insert' (by decide), bigSep_singleton]

/-- A separating product over five. -/
theorem bigSep_five {M : Type} [URA M] (Φ : Fin 5 → sProp M) : bigSep Finset.univ Φ = iprop(Φ 0 ∗ Φ 1 ∗ Φ 2 ∗ Φ 3 ∗ Φ 4) := by
  rw [show (Finset.univ : Finset (Fin 5)) = {0, 1, 2, 3, 4} by decide, SparseCore.bigSep_insert' (by decide), SparseCore.bigSep_insert' (by decide),
    SparseCore.bigSep_insert' (by decide), SparseCore.bigSep_insert' (by decide), bigSep_singleton]

/-- A separating product over a set is the one over some of its members, told apart, and the one over the others. -/
theorem bigSep_pick {M : Type} [URA M] {I J : Type} [DecidableEq J] [Fintype I] {s : Finset J} {f : I → J} (inj : Function.Injective f)
    (sub : ∀ i ∈ (Finset.univ : Finset I), f i ∈ s) {Φ : J → sProp M} :
    bigSep s Φ = iprop(bigSep Finset.univ (fun i => Φ (f i)) ∗ bigSep (s \ Finset.univ.image f) Φ) := by
  classical
  rw [SparseCore.bigSep_sdiff_split' (t := Finset.univ.image f) (Finset.image_subset_iff.mpr sub), SparseCore.bigSep_image_of_injOn inj.injOn]

section Parts

variable {ℓ : Loc nD τ sig} {I : Type} [Fintype I] (A : I → Finset (Idx ℓ)) (hd : ∀ a b, a ≠ b → Disjoint (A a) (A b))
  (hc : (Finset.univ : Finset I).biUnion A = Finset.univ)

include hd hc in
/-- An array is its parts, whatever the share. -/
theorem whole_parts (q : PosShare TreeShare) (f : Buf (Elt F) ℓ) : (ℓ ↦{q} f : sProp 𝕄) = bigSep Finset.univ fun a => ℓ ↦[A a]{q} f := by
  rw [← pointsTo_biUnion Finset.univ A fun a _ b _ h => hd a b h, hc]

include hd hc in
/-- Parts at any contents are the array at some contents. -/
theorem parts_join (fs : I → Buf (Elt F) ℓ) (f₀ : Buf (Elt F) ℓ) :
    (bigSep Finset.univ fun a => ℓ ↦[A a]{fullShare} fs a) ⊢ (iprop(∃ f, ℓ ↦{fullShare} f) : sProp 𝕄) := by
  iintro H
  ihave H' := (pointsTo_biUnion_join (q := fullShare) Finset.univ A fs f₀ fun a _ b _ h => hd a b h) $$ H
  icases H' with ⟨%g, -, Hg⟩
  rw [hc]
  iexists g; iexact Hg

end Parts

section Two

variable {ℓ : Loc nD τ sig} (A : Fin 2 → Finset (Idx ℓ)) (hd : ∀ a b, a ≠ b → Disjoint (A a) (A b)) (hc : (Finset.univ : Finset (Fin 2)).biUnion A = Finset.univ)

include hd hc in
/-- An array of two parts is the two. -/
theorem two_split (f : Buf (Elt F) ℓ) : (ℓ ↦{fullShare} f : sProp 𝕄) = iprop((ℓ ↦[A 0]{fullShare} f) ∗ (ℓ ↦[A 1]{fullShare} f)) :=
  (whole_parts A hd hc fullShare f).trans (BI.bigSep_fin_two _)

include hd hc in
/-- Two parts at any contents are the array at some contents. -/
theorem two_join (f g : Buf (Elt F) ℓ) : iprop((ℓ ↦[A 0]{fullShare} f) ∗ (ℓ ↦[A 1]{fullShare} g)) ⊢ (iprop(∃ h, ℓ ↦{fullShare} h) : sProp 𝕄) :=
  (Entails.of_eq (BI.bigSep_fin_two fun b => (ℓ ↦[A b]{fullShare} ((![f, g] : Fin 2 → Buf (Elt F) ℓ) b) : sProp 𝕄)).symm).trans
    (parts_join A hd hc ![f, g] f)

end Two

/-- Sets of elements told apart by a number are disjoint. -/
theorem disjoint_of_key {α I : Type} [DecidableEq α] (A : I → Finset α) (key : α → ℕ) (num : I → ℕ) (hA : ∀ a i, i ∈ A a → key i = num a)
    (hn : Function.Injective num) (a b : I) (h : a ≠ b) : Disjoint (A a) (A b) :=
  Finset.disjoint_left.mpr fun i ha hb => h (hn ((hA a i ha).symm.trans (hA b i hb)))

/-! ## The two slots -/

theorem slot_disjoint (a b : Fin 2) (h : a ≠ b) : Disjoint (slotSet a) (slotSet b) :=
  disjoint_of_key slotSet (fun i => (i 0).val) (fun b => b.val) (fun _ _ hi => mem_slotSet.mp hi) Fin.val_injective a b h
theorem slot_cover : (Finset.univ : Finset (Fin 2)).biUnion slotSet = Finset.univ :=
  Finset.eq_univ_iff_forall.mpr fun i => Finset.mem_biUnion.mpr ⟨i 0, Finset.mem_univ _, mem_slotSet.mpr rfl⟩

/-! ## The four rows of the list -/

theorem lrow_disjoint (a b : Fin 4) (h : a ≠ b) : Disjoint (lrowSet a) (lrowSet b) :=
  disjoint_of_key lrowSet (fun i => (i 0).val) (fun b => b.val) (fun _ _ hi => mem_lrowSet.mp hi) Fin.val_injective a b h
theorem lrow_cover : (Finset.univ : Finset (Fin 4)).biUnion lrowSet = Finset.univ :=
  Finset.eq_univ_iff_forall.mpr fun i => Finset.mem_biUnion.mpr ⟨i 0, Finset.mem_univ _, mem_lrowSet.mpr rfl⟩

/-! ## The chunks of the result: of the SparseCores' `c`, its tiles' `s`, their `r`-th -/

/-- The number of chunk `r` of tile `s` of SparseCore `c`. -/
def chunkNo (p : Fin 2 × Fin 16 × Fin 4) : ℕ := 8 * p.2.1.val + 4 * p.1.val + p.2.2.val

theorem chunkNo_injective : Function.Injective chunkNo := by
  rintro ⟨c, s, r⟩ ⟨c', s', r'⟩ h
  have := c.isLt; have := c'.isLt; have := r.isLt; have := r'.isLt
  simp only [chunkNo] at h
  refine Prod.ext (Fin.ext ?_) (Prod.ext (Fin.ext ?_) (Fin.ext ?_)) <;> simp only <;> omega

theorem chunk_disjoint (a b : Fin 2 × Fin 16 × Fin 4) (h : a ≠ b) : Disjoint (chunkSet (chunkNo a)) (chunkSet (chunkNo b)) :=
  disjoint_of_key (fun p => chunkSet (chunkNo p)) (fun i => (i 0).val / 128) chunkNo (fun _ _ hi => mem_chunkSet.mp hi) chunkNo_injective a b h
theorem chunk_cover : (Finset.univ : Finset (Fin 2 × Fin 16 × Fin 4)).biUnion (fun p => chunkSet (chunkNo p)) = Finset.univ := by
  refine Finset.eq_univ_iff_forall.mpr fun i => Finset.mem_biUnion.mpr ?_
  have hi : (i 0).val < 16384 := (i 0).isLt
  refine ⟨(⟨(i 0).val / 128 / 4 % 2, by omega⟩, ⟨(i 0).val / 128 / 8, by omega⟩, ⟨(i 0).val / 128 % 4, by omega⟩), Finset.mem_univ _, mem_chunkSet.mpr ?_⟩
  simp only [chunkNo]
  omega

/-! ## Shares -/

/-- Token `i` of four of a share. -/
abbrev tok (q : PosShare TreeShare) (i : Fin 4) : PosShare TreeShare := ShareLeaves.leaf 2 q i

/-- An array at a share is its four tokens. -/
theorem pointsTo_toks4 {ℓ : Loc nD τ sig} (q : PosShare TreeShare) (f : Buf (Elt F) ℓ) :
    (ℓ ↦{q} f : sProp 𝕄) = iprop((ℓ ↦{tok q 0} f) ∗ (ℓ ↦{tok q 1} f) ∗ (ℓ ↦{tok q 2} f) ∗ (ℓ ↦{tok q 3} f)) :=
  (ShareLeaves.pointsTo_leaves Finset.univ f 2 q).trans (bigSep_four fun i => (ℓ ↦{tok q i} f : sProp 𝕄))

end Cert.Proof.Mix

end
-- ==== Proof.Scratch.lean ====
/-
  A tile's own semaphores and buffers: the eight semaphores its copies signal and its five scratch buffers, out of all
  those the launch gives it.
-/
module

public import proofs.«01_k».proof.Proof.Program
public import proofs.«01_k».proof.Proof.Parts

@[expose] public section

noncomputable section

namespace Cert.Proof.Mix

open Cert.KernelIdeal Cert.KernelIdeal.Gen
open Idealize.ShloMosaic
open Idealize.ShloMosaic.ValueIdx
open Idealize.ShloMosaic.SparseCore (S V T)
open Idealize.ShloMosaic.SparseCore.Cfg (HIx Pay ownCells mem_ownCells ownRefs ownSems0 ownBufs)
open Idealize.SL Idealize.SL.RA Idealize.SL.BI
open scoped Idealize.SL.BI
open Idealize.SL.BI.BIBase Idealize.SL.BI.Laws Idealize.SL.ProofMode Idealize.SL.Sem
open Idealize.ShloMosaic.Tactic

variable {F : FTy → Type}

local notation "𝕄" => MT nD τ sig (HIx 1) (Elt F) ℕ UU ℕ

variable (d : Dev nD) (L : grid0.Coords)

/-- The tile's semaphore at zero. -/
abbrev Idle (sem : DmaSem sig) : sProp 𝕄 := semVal (tV d L, SemLoc.dma sem) 0

/-- The tile's scratch buffers at some contents. -/
def Bufs : sProp 𝕄 :=
  iprop((∃ f, idxB.view.loc (tV d L) ↦{fullShare} f) ∗ (∃ f, xB.view.loc (tV d L) ↦{fullShare} f) ∗ (∃ f, pB.view.loc (tV d L) ↦{fullShare} f)
    ∗ (∃ f, oB.view.loc (tV d L) ↦{fullShare} f) ∗ (∃ f, aB.view.loc (tV d L) ↦{fullShare} f))

/-- The tile's semaphores at zero. -/
def Sems : sProp 𝕄 :=
  iprop(Idle d L cc0_scratch5.sem ∗ Idle d L cc0_scratch6.sem ∗ Idle d L (gSem 0) ∗ Idle d L (gSem 1)
    ∗ Idle d L (xSem 0) ∗ Idle d L (xSem 1) ∗ Idle d L (oSem 0) ∗ Idle d L (oSem 1))

/-- The semaphores: `alpha`'s copy, the list's, the slots' gathers, the slots' `x` copies, the slots' result copies. -/
def tileSem : Fin 8 → DmaSem sig :=
  ![cc0_scratch5.sem, cc0_scratch6.sem, cc0_scratch7.sem, cc0_scratch8.sem, cc0_scratch9.sem, cc0_scratch10.sem, cc0_scratch11.sem, cc0_scratch12.sem]
theorem tileSem_injective : Function.Injective tileSem := by decide
theorem tileSem_scoped (i : Fin 8) : (SemLoc.dma (tileSem i) : SemLoc sig).isScoped .scVector = true := by revert i; decide

/-- The tile's semaphores as cells of the machine. -/
def tileCell (i : Fin 8) : GSem nD τ sig := (tV d L, SemLoc.dma (tileSem i))
theorem tileCell_injective : Function.Injective (tileCell d L) := fun _ _ h => tileSem_injective (SemLoc.dma.inj (Prod.mk.inj h).2)

/-- The tile's semaphores at zero are the eight its copies signal, and the rest. -/
theorem ownSems_tile :
    (ownSems0 (tV d L) : sProp 𝕄)
      = iprop(Sems d L ∗ bigSep (ownCells (tV d L) \ Finset.univ.image (tileCell d L)) fun g => semVal g 0) := by
  unfold SparseCore.Cfg.ownSems0
  rw [bigSep_pick (s := ownCells (tV d L)) (f := tileCell d L) (tileCell_injective d L)
    (fun i _ => mem_ownCells.mpr ⟨rfl, tileSem_scoped i⟩), bigSep_eight]
  rfl

/-- The scratch buffers. -/
def tileRef : Fin 5 → Ref sig .scVector := ![cc0_scratch0, cc0_scratch1, cc0_scratch2, cc0_scratch3, cc0_scratch4]
theorem tileRef_injective : Function.Injective tileRef := by decide

/-- The scratch buffers as buffers of the device. -/
def tileBuf (i : Fin 5) : DevRef τ sig := (Proc.scVector (cV L) (jV L)).devRef (tileRef i)
theorem tileBuf_injective : Function.Injective (tileBuf L) := fun _ _ h => tileRef_injective (Proc.devRef_injective _ h)

theorem tileBuf_owner (i : Fin 5) : (tileBuf L i).owner = Owner.proc (Proc.scVector (cV L) (jV L)) := by fin_cases i <;> rfl

/-- The tile's buffers, at some contents, are its five scratch buffers, and the rest. -/
theorem ownBufs_tile :
    (ownBufs (tV d L) : sProp 𝕄)
      = iprop(Bufs d L ∗ bigSep (ownRefs (τ := τ) (sig := sig) (.scVector (cV L) (jV L)) \ Finset.univ.image (tileBuf L))
              fun b => iprop(∃ f, ((d, b) : Loc nD τ sig) ↦{fullShare} f)) := by
  unfold SparseCore.Cfg.ownBufs
  refine (bigSep_pick (s := ownRefs (τ := τ) (sig := sig) (.scVector (cV L) (jV L))) (f := tileBuf L) (tileBuf_injective L)
    (fun i _ => SparseCore.Cfg.mem_ownRefs_of_owner (tileBuf_owner L i))).trans ?_
  rw [bigSep_five]
  rfl

end Cert.Proof.Mix

end
-- ==== Proof.Steps.lean ====
/-
  The rules of the tile's copies, gathers and waits, with what each lands written out: the rule of a start hands in the
  destination and gives the transfer in flight, which delivers at its wait the destination at known contents and the
  source back.
-/
module

public import proofs.«01_k».proof.Proof.Scratch

@[expose] public section

noncomputable section

namespace Cert.Proof.Mix

open Cert.KernelIdeal Cert.KernelIdeal.Gen
open Idealize.ShloMosaic
open Idealize.ShloMosaic.ValueIdx
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Tactic

variable {F : FTy → Type} [FloatOps F]

local notation "𝕄" => MT nD τ sig (HIx 1) (Elt F) ℕ UU ℕ

variable (d : Dev nD) (L : grid0.Coords)

/-! ## What the buffers hold -/

/-- Chunk `r` of `x`, in a slot. -/
def xAt (fx : S16384x128.Idx → F .f32) (r : Fin 4) : S2x128x128.Idx → F .f32 :=
  fun i => fx (ix2 (crow (cnum L r) (cnum_lt L r) (i 1)) (i 2))

/-- The tile's row numbers. -/
def listAt (fr : S32x4x128.Idx → BitVec 32) : S4x128.Idx → BitVec 32 := fun i => fr (ix3 ⟨wnum L, wnum_lt L⟩ (i 0) (i 1))

/-- The rows of `x` that row `r` of the tile's row numbers names, in a slot. -/
def pAt (fx : S16384x128.Idx → F .f32) (fr : S32x4x128.Idx → BitVec 32) (hin : ∀ j, (fr j).toNat < 16384) (r : Fin 4) : S2x128x128.Idx → F .f32 :=
  fun i => fx (ix2 ⟨(fr (ix3 ⟨wnum L, wnum_lt L⟩ r (i 1))).toNat, hin _⟩ (i 2))

/-- The row number of row `n` of the result. -/
def permAt (fr : S32x4x128.Idx → BitVec 32) (n : Fin 16384) : BitVec 32 :=
  fr (ix3 ⟨n.val / 512, by omega⟩ ⟨n.val % 512 / 128, by omega⟩ ⟨n.val % 128, by omega⟩)

theorem permAt_lt (fr : S32x4x128.Idx → BitVec 32) (hin : ∀ j, (fr j).toNat < 16384) (n : Fin 16384) : (permAt fr n).toNat < 16384 := hin _

/-- What the kernel computes: `alpha` times `x` plus `1 - alpha` times `x` at the row that the list names. -/
def result (fx : S16384x128.Idx → F .f32) (fr : S32x4x128.Idx → BitVec 32) (fa : S16.Idx → F .f32) (hin : ∀ j, (fr j).toNat < 16384) :
    S16384x128.Idx → F .f32 :=
  fun i => mix1 (k0_pay41 fa) (k0_pay42 fa) (lane16 (i 1)) (fx i) (fx (ix2 ⟨(permAt fr (i 0)).toNat, permAt_lt fr hin _⟩ (i 1)))

/-- An array written through a box with what a slot holds is known on the box's elements. -/
theorem write_eq {κ : Kind} {sp : Space} {s : Shape} {e : EltTy} (v : View sig κ sp s e) (f : v.ty.Contents (Elt F)) (w : s.Idx → Elt F e)
    (g : v.ty.Contents (Elt F)) (h : ∀ y, cast (congrArg (Elt F) v.elt_eq.symm) (w y) = g (v.emb y)) :
    ∀ i ∈ v.set, v.write (Elt F) f w Finset.univ i = g i := by
  intro i hi
  obtain ⟨y, -, rfl⟩ := Finset.mem_map.mp hi
  exact (View.write_emb_of_mem (v := v) f w (Finset.mem_univ y)).trans (h y)

/-! ## Waits -/

/-- A transfer in flight on one of the tile's semaphores, with what it delivers. -/
abbrev Fly (sem : DmaSem sig) (N : ℕ) (D : sProp 𝕄) : sProp 𝕄 :=
  Transfers.Flight countersEmb (tV d L) (SemLoc.dma sem) (default : HIx 1) N D

/-- What the tile owes, the waits it has made beyond `W` being on the copies' level. -/
def Owing (O : CellTallies nD τ sig (HIx 1)) (W : Waits sig (HIx 1)) : sProp 𝕄 :=
  iprop(∃ W', ⌜∀ p ∈ W', p ∈ W ∨ p.2 = none⌝ ∗ owes (tV d L) O W')

/-- The weakest precondition of a tile's program. -/
abbrev WP {α : Type} (p : TileProg F L α) (Q : α → sProp 𝕄) : sProp 𝕄 :=
  wp frame (wpE (defs₀ (F := F)) 𝒱₀ (tV d L) none) Set.univ p Q

/-- A program that is done. -/
theorem wp_done {α : Type} {a : α} {Q : α → sProp 𝕄} : Q a ⊢ WP (F := F) d L (pure a) Q := by
  show _ ⊢ wp _ _ _ _ _
  rw [wp_pure]
  iintro H
  imodintro
  iexact H

/-- A wait hands out what the transfer delivers, and the semaphore at zero. -/
theorem wp_wait {O : CellTallies nD τ sig (HIx 1)} {W : Waits sig (HIx 1)} {sp sp' : Space} {s s' : Shape} {e e' : EltTy} {sem : DmaSem sig}
    {srcw : Memref sig .scVector sp' s' e'} {dstw : Memref sig .scVector sp s e} {hsrc : srcw.view.WordExact} {hdst : dstw.view.WordExact}
    (N : ℕ) (hN : dstw.view.dmaCredit = N) {D : sProp 𝕄} {α : Type} {k : PUnit → TileProg F L α} {Q : α → sProp 𝕄} :
    iprop(Transfers.MayWaits (tV d L) (default : HIx 1) O ∗ Fly d L sem N D ∗ Owing d L O W)
      ⊢ iprop((iprop(D ∗ Idle d L sem ∗ Owing d L O W) -∗ WP d L (k ⟨⟩) Q)
          -∗ WP d L (Prog.lift (.waitDma2 sem srcw dstw hsrc hdst) >>= k) Q) := by
  unfold Owing
  iintro ⟨Hmw, Hfl, %W', %hW', HO⟩ Hk
  iapply (Transfers.wp_waitLocalO countersEmb 𝒱₀ (tV d L) none (default : HIx 1) hN) $$ [Hfl HO Hmw]
  · isplitl [Hfl]; · iexact Hfl
    isplitl [HO]; · iexact HO
    iapply (Transfers.MayWaits.elim (SemLoc.dma sem)) $$ Hmw
  iintro ⟨HD, Hv, HO⟩
  iapply Hk
  isplitl [HD]; · iexact HD
  isplitl [Hv]; · iexact Hv
  iexists _; isplitr
  swap; · iexact HO
  ipureintro; intro p hp
  rcases Finset.mem_insert.mp hp with hp | hp
  · exact .inr (hp ▸ rfl)
  · exact hW' p hp

/-- The waits of the tile's program: for `alpha`, for the list, for a slot's `x` copy, its gather, its result copy. -/
theorem wp_alphaWait {O : CellTallies nD τ sig (HIx 1)} {W : Waits sig (HIx 1)} {D : sProp 𝕄} {α : Type} {k : PUnit → TileProg F L α} {Q : α → sProp 𝕄} :
    iprop(Transfers.MayWaits (tV d L) (default : HIx 1) O ∗ Fly d L cc0_scratch5.sem (aB).view.dmaCredit D ∗ Owing d L O W)
      ⊢ iprop((iprop(D ∗ Idle d L cc0_scratch5.sem ∗ Owing d L O W) -∗ WP d L (k ⟨⟩) Q) -∗ WP d L (alphaWait L >>= k) Q) := wp_wait d L _ rfl
theorem wp_listWait {O : CellTallies nD τ sig (HIx 1)} {W : Waits sig (HIx 1)} {D : sProp 𝕄} {α : Type} {k : PUnit → TileProg F L α} {Q : α → sProp 𝕄} :
    iprop(Transfers.MayWaits (tV d L) (default : HIx 1) O ∗ Fly d L cc0_scratch6.sem (idxB).view.dmaCredit D ∗ Owing d L O W)
      ⊢ iprop((iprop(D ∗ Idle d L cc0_scratch6.sem ∗ Owing d L O W) -∗ WP d L (k ⟨⟩) Q) -∗ WP d L (listWait L >>= k) Q) := wp_wait d L _ rfl
theorem wp_fetchWait (r : Fin 4) (b : Fin 2) {O : CellTallies nD τ sig (HIx 1)} {W : Waits sig (HIx 1)} {D : sProp 𝕄} {α : Type}
    {k : PUnit → TileProg F L α} {Q : α → sProp 𝕄} :
    iprop(Transfers.MayWaits (tV d L) (default : HIx 1) O ∗ Fly d L (xSem b) (slot xB b).view.dmaCredit D ∗ Owing d L O W)
      ⊢ iprop((iprop(D ∗ Idle d L (xSem b) ∗ Owing d L O W) -∗ WP d L (k ⟨⟩) Q) -∗ WP d L (fetchWait L r b >>= k) Q) := wp_wait d L _ rfl
theorem wp_gatherWait (b : Fin 2) {O : CellTallies nD τ sig (HIx 1)} {W : Waits sig (HIx 1)} {D : sProp 𝕄} {α : Type}
    {k : PUnit → TileProg F L α} {Q : α → sProp 𝕄} :
    iprop(Transfers.MayWaits (tV d L) (default : HIx 1) O ∗ Fly d L (gSem b) (slot pB b).view.dmaCredit D ∗ Owing d L O W)
      ⊢ iprop((iprop(D ∗ Idle d L (gSem b) ∗ Owing d L O W) -∗ WP d L (k ⟨⟩) Q) -∗ WP d L (gatherWait L b >>= k) Q) := wp_wait d L _ rfl
theorem wp_putWait (r : Fin 4) (b : Fin 2) {O : CellTallies nD τ sig (HIx 1)} {W : Waits sig (HIx 1)} {D : sProp 𝕄} {α : Type}
    {k : PUnit → TileProg F L α} {Q : α → sProp 𝕄} :
    iprop(Transfers.MayWaits (tV d L) (default : HIx 1) O ∗ Fly d L (oSem b) (chunkH oH L r).view.dmaCredit D ∗ Owing d L O W)
      ⊢ iprop((iprop(D ∗ Idle d L (oSem b) ∗ Owing d L O W) -∗ WP d L (k ⟨⟩) Q) -∗ WP d L (putWait L r b >>= k) Q) := wp_wait d L _ rfl

/-! ## Starts -/

theorem credit_pos {κ : Kind} {sp : Space} (v : View sig κ sp S128x128 .f32) : 0 < v.dmaCredit := View.dmaCredit_pos _ (by decide)

/-- The copy of chunk `r` of `x` into slot `b`. -/
theorem wp_fetch (r : Fin 4) (b : Fin 2) {q : PosShare TreeShare} (fx : S16384x128.Idx → F .f32) (g : S2x128x128.Idx → F .f32)
    {α : Type} {k : PUnit → TileProg F L α} {Q : α → sProp 𝕄} :
    iprop((xH.view.loc (tV d L) ↦{q} fx) ∗ (xB.view.loc (tV d L) ↦[slotSet b]{fullShare} g) ∗ Idle d L (xSem b))
      ⊢ iprop((Fly d L (xSem b) (slot xB b).view.dmaCredit
            iprop((xB.view.loc (tV d L) ↦[slotSet b]{fullShare} xAt L fx r) ∗ (xH.view.loc (tV d L) ↦{q} fx)) -∗ WP d L (k ⟨⟩) Q)
          -∗ WP d L (fetch L r b >>= k) Q) := by
  iintro ⟨Hx, Hb, Hs⟩ Hk
  iapply (Transfers.wp_dmaFromWhole countersEmb 𝒱₀ (tV d L) none (src := chunkH xH L r) (dst := slot xB b) (default : HIx 1) (slot xB b).view.dmaCredit rfl
    (credit_pos _) (slot_set_x b).subset) $$ [Hx Hb Hs]
  · isplitl [Hx]; · iexact Hx
    isplitl [Hb]; · iexact Hb
    iexact Hs
  iintro Hfl
  iapply Hk
  iapply (Transfers.Flight_mono countersEmb (tV d L) ?_) $$ Hfl
  refine sep_mono (Entails.of_eq (pointsTo_congr fun i hi => ?_)) Entails.rfl
  refine write_eq (slot xB b).view g _ (xAt L fx r) (fun y => ?_) i (by rw [slot_set_x]; exact hi)
  rw [slot_emb_x]
  show fx ((chunkH xH L r).view.emb y) = _
  rw [chunk_emb_x]
  rfl

theorem allH_emb (y : S16384x128.Idx) : (allH).view.emb y = y := by
  show (Rect.unit (s := S16384x128) ![0, 0] S16384x128.size inb_S16384x128_S16384x128_0_0).emb y = y
  funext a; apply Fin.ext; rw [Rect.emb_apply]
  fin_cases a <;> simp [Rect.unit]

/-- Entry `k` of the row-major order of 128 elements is element `k`. -/
theorem entry_val (k : Fin S128.numel) : (S128.rowMajor.symm k 0).val = k.val := by
  rw [← Shape.rowMajor_val_one, Equiv.apply_symm_apply]

theorem allH_set : (allH).view.set = (Finset.univ : Finset S16384x128.Idx) :=
  Finset.eq_univ_iff_forall.mpr fun i => Finset.mem_map.mpr ⟨i, Finset.mem_univ _, allH_emb i⟩

/-- The gather of the rows of `x` that row `r` of the list names into slot `b`. -/
theorem wp_gather (r : Fin 4) (b : Fin 2) {q : PosShare TreeShare} (fx : S16384x128.Idx → F .f32) (fr : S32x4x128.Idx → BitVec 32)
    (hin : ∀ j, (fr j).toNat < 16384) (g : S2x128x128.Idx → F .f32) {α : Type} {k : PUnit → TileProg F L α} {Q : α → sProp 𝕄} :
    iprop((xH.view.loc (tV d L) ↦{q} fx) ∗ (pB.view.loc (tV d L) ↦[slotSet b]{fullShare} g)
        ∗ (idxB.view.loc (tV d L) ↦[lrowSet r]{fullShare} listAt L fr) ∗ Idle d L (gSem b))
      ⊢ iprop((Fly d L (gSem b) (slot pB b).view.dmaCredit
            iprop((pB.view.loc (tV d L) ↦[slotSet b]{fullShare} pAt L fx fr hin r) ∗ (xH.view.loc (tV d L) ↦{q} fx)
              ∗ (idxB.view.loc (tV d L) ↦[lrowSet r]{fullShare} listAt L fr)) -∗ WP d L (k ⟨⟩) Q)
          -∗ WP d L (gather L r b >>= k) Q) := by
  have hall := allH_set
  have hl : ∀ y, (lrow r).view.read (Elt F) (listAt L fr) y = fr (ix3 ⟨wnum L, wnum_lt L⟩ r (y 0)) := by
    intro y
    show listAt L fr ((lrow r).view.emb y) = _
    rw [lrow_emb]
    rfl
  have hi : ∀ y, ((lrow r).view.read (Elt F) (listAt L fr) y).toNat < 16384 := fun y => by rw [hl]; exact hin _
  have hN : ∀ h : S16384x128.Gathers 0 S128x128,
      ∑ j, ((slot pB b).slice (S128x128.rowRect h.axis' j) (S128x128.stride_rowRect h.axis' j)).view.dmaCredit = (slot pB b).view.dmaCredit := by
    fin_cases b <;> decide
  iintro ⟨Hx, Hb, Hl, Hs⟩ Hk
  iapply (SparseCore.wp_indirectGatherLocal countersEmb 𝒱₀ (tV d L) none (src := allH) (dst := slot pB b) (offs := lrow r)
    (hg := gathers_S16384x128_S128x128) (fs := fx) (fd := g) (fo := listAt L fr) (default : HIx 1) (slot pB b).view.dmaCredit (hN _) (by decide) hi)
    $$ [Hx Hb Hl Hs]
  · rw [hall, slot_set_p, lrow_set]
    isplitl [Hx]; · iexact Hx
    isplitl [Hb]; · iexact Hb
    isplitl [Hl]; · iexact Hl
    iexact Hs
  iintro Hfl
  iapply Hk
  iapply (Transfers.Flight_mono countersEmb (tV d L) ?_) $$ Hfl
  rw [hall, slot_set_p, lrow_set]
  refine sep_mono (Entails.of_eq (pointsTo_congr fun i hi => ?_)) Entails.rfl
  refine write_eq (slot pB b).view g _ (pAt L fx fr hin r) (fun y => ?_) i (by rw [slot_set_p]; exact hi)
  rw [slot_emb_p]
  show fx ((allH).view.emb (gathers_S16384x128_S128x128.idx (SparseCore.rows ((lrow r).view.read (Elt F) (listAt L fr)) _ _) y)) = _
  rw [allH_emb]
  refine congrArg fx (funext fun a => Fin.ext ?_)
  fin_cases a
  · show ((gathers_S16384x128_S128x128).idx _ y (gathers_S16384x128_S128x128).axis).val = _
    rw [Shape.Gathers.idx_axis]
    show ((lrow r).view.read (Elt F) (listAt L fr) _).toNat = _
    rw [hl]
    exact congrArg (fun n => (fr (ix3 ⟨wnum L, wnum_lt L⟩ r n)).toNat) (Fin.ext (entry_val _))
  · rw [Shape.Gathers.idx_of_ne _ _ _ _ (by decide)]
    rfl

/-- The copy of the mixed chunk `r` from slot `b` to the result. -/
theorem wp_put (r : Fin 4) (b : Fin 2) (fx : S16384x128.Idx → F .f32) (fr : S32x4x128.Idx → BitVec 32) (fa : S16.Idx → F .f32)
    (hin : ∀ j, (fr j).toNat < 16384) (g : S2x128x128.Idx → F .f32) (f : S16384x128.Idx → F .f32) {α : Type} {k : PUnit → TileProg F L α} {Q : α → sProp 𝕄} :
    iprop((oB.view.loc (tV d L) ↦[slotSet b]{fullShare} mixed (k0_pay41 fa) (k0_pay42 fa) (xAt L fx r) (pAt L fx fr hin r) g 16384)
        ∗ (oH.view.loc (tV d L) ↦[chunkSet (cnum L r)]{fullShare} f) ∗ Idle d L (oSem b))
      ⊢ iprop((Fly d L (oSem b) (chunkH oH L r).view.dmaCredit
            iprop((oH.view.loc (tV d L) ↦[chunkSet (cnum L r)]{fullShare} result fx fr fa hin)
              ∗ (oB.view.loc (tV d L) ↦[slotSet b]{fullShare} mixed (k0_pay41 fa) (k0_pay42 fa) (xAt L fx r) (pAt L fx fr hin r) g 16384)) -∗ WP d L (k ⟨⟩) Q)
          -∗ WP d L (put L r b >>= k) Q) := by
  iintro ⟨Hb, Ho, Hs⟩ Hk
  iapply (Transfers.wp_dmaLocal countersEmb 𝒱₀ (tV d L) none (src := slot oB b) (dst := chunkH oH L r) (default : HIx 1) (chunkH oH L r).view.dmaCredit rfl
    (credit_pos _) (chunk_set_o L r).subset) $$ [Hb Ho Hs]
  · rw [slot_set_o]
    isplitl [Hb]; · iexact Hb
    isplitl [Ho]; · iexact Ho
    iexact Hs
  iintro Hfl
  iapply Hk
  iapply (Transfers.Flight_mono countersEmb (tV d L) ?_) $$ Hfl
  rw [slot_set_o]
  refine sep_mono (Entails.of_eq (pointsTo_congr fun i hi => ?_)) Entails.rfl
  refine write_eq (chunkH oH L r).view f _ (result fx fr fa hin) (fun y => ?_) i (by rw [chunk_set_o]; exact hi)
  rw [chunk_emb_o]
  show mixed _ _ _ _ _ _ ((slot oB b).view.emb y) = _
  rw [slot_emb_o, mixed_full]
  have hp : permAt fr (crow (cnum L r) (cnum_lt L r) (y 0)) = fr (ix3 ⟨wnum L, wnum_lt L⟩ r (y 0)) := by
    unfold permAt crow cnum wnum
    have := (y 0).isLt
    have : (y 0).val < 128 := (y 0).isLt
    congr 2 <;> apply Fin.ext <;> simp only <;> omega
  refine congrArg (mix1 _ _ _ _) (congrArg fx ?_)
  show (ix2 ⟨(fr (ix3 ⟨wnum L, wnum_lt L⟩ r (y 0))).toNat, _⟩ (y 1) : S16384x128.Idx) = ix2 ⟨(permAt fr (crow _ _ (y 0))).toNat, _⟩ (y 1)
  simp only [hp]
  rfl

/-- The copy of the tile's row numbers. -/
theorem wp_listIn {q : PosShare TreeShare} (fr : S32x4x128.Idx → BitVec 32) (g : S4x128.Idx → BitVec 32)
    {α : Type} {k : PUnit → TileProg F L α} {Q : α → sProp 𝕄} :
    iprop((rH.view.loc (tV d L) ↦{q} fr) ∗ (idxB.view.loc (tV d L) ↦{fullShare} g) ∗ Idle d L cc0_scratch6.sem)
      ⊢ iprop((Fly d L cc0_scratch6.sem (idxB).view.dmaCredit
            iprop((idxB.view.loc (tV d L) ↦{fullShare} listAt L fr) ∗ (rH.view.loc (tV d L) ↦{q} fr)) -∗ WP d L (k ⟨⟩) Q)
          -∗ WP d L (listIn L >>= k) Q) := by
  iintro ⟨Hr, Hb, Hs⟩ Hk
  iapply (Transfers.wp_dmaFromWhole countersEmb 𝒱₀ (tV d L) none (src := listH L) (dst := idxB) (default : HIx 1) (idxB).view.dmaCredit rfl
    (View.dmaCredit_pos _ (by decide)) (Finset.subset_univ _)) $$ [Hr Hb Hs]
  · isplitl [Hr]; · iexact Hr
    isplitl [Hb]; · iexact Hb
    iexact Hs
  iintro Hfl
  iapply Hk
  iapply (Transfers.Flight_mono countersEmb (tV d L) ?_) $$ Hfl
  refine sep_mono (Entails.of_eq (pointsTo_congr fun i _ => ?_)) Entails.rfl
  refine write_eq (idxB).view g _ (listAt L fr) (fun y => ?_) i (by rw [show (idxB).view.set = Finset.univ from View.set_whole _]; exact Finset.mem_univ _)
  show fr ((listH L).view.emb y) = _
  rw [listH_emb]
  rfl

/-- The copy of `alpha`. -/
theorem wp_alphaIn {q : PosShare TreeShare} (fa g : S16.Idx → F .f32) {α : Type} {k : PUnit → TileProg F L α} {Q : α → sProp 𝕄} :
    iprop((sH.view.loc (tV d L) ↦{q} fa) ∗ (aB.view.loc (tV d L) ↦{fullShare} g) ∗ Idle d L cc0_scratch5.sem)
      ⊢ iprop((Fly d L cc0_scratch5.sem (aB).view.dmaCredit
            iprop((aB.view.loc (tV d L) ↦{fullShare} fa) ∗ (sH.view.loc (tV d L) ↦{q} fa)) -∗ WP d L (k ⟨⟩) Q)
          -∗ WP d L (alphaIn L >>= k) Q) := by
  iintro ⟨Hr, Hb, Hs⟩ Hk
  iapply (Transfers.wp_dmaFromWhole countersEmb 𝒱₀ (tV d L) none (src := sH) (dst := aB) (default : HIx 1) (aB).view.dmaCredit rfl
    (View.dmaCredit_pos _ (by decide)) (Finset.subset_univ _)) $$ [Hr Hb Hs]
  · isplitl [Hr]; · iexact Hr
    isplitl [Hb]; · iexact Hb
    iexact Hs
  iintro Hfl
  iapply Hk
  iapply (Transfers.Flight_mono countersEmb (tV d L) ?_) $$ Hfl
  refine sep_mono (Entails.of_eq (pointsTo_congr fun i _ => ?_)) Entails.rfl
  exact write_eq (aB).view g _ fa (fun y => rfl) i (by rw [show (aB).view.set = Finset.univ from View.set_whole _]; exact Finset.mem_univ _)

theorem alphaRead_val (fa : S16.Idx → F .f32) :
    View.read (Elt F) (aB.access (Rect.unit (s := S16) ![0] S16.size inb_S16_S16_0)) fa = fa := by
  funext y
  show fa ((Rect.unit (s := S16) ![0] S16.size inb_S16_S16_0).emb y) = fa y
  refine congrArg fa (funext fun a => Fin.ext ?_)
  rw [Rect.emb_apply]
  fin_cases a; simp [Rect.unit]

/-- The read of `alpha`. -/
theorem wp_alphaRead (fa : S16.Idx → F .f32) {α : Type} {k : Vec F S16 .f32 → TileProg F L α} {Q : α → sProp 𝕄} :
    iprop(aB.view.loc (tV d L) ↦{fullShare} fa)
      ⊢ iprop(((aB.view.loc (tV d L) ↦{fullShare} fa) -∗ WP d L (k fa) Q) -∗ WP d L (alphaRead L >>= k) Q) := by
  iintro Ha Hk
  iapply (wp_load_rect 𝒱₀ (tV d L) none Set.univ (m := aB) (r := Rect.unit (s := S16) ![0] S16.size inb_S16_S16_0) (S := Finset.univ) (Finset.subset_univ _)) $$ Ha
  iintro Ha
  ihave Hk := Hk $$ Ha
  rw [alphaRead_val]
  iexact Hk

/-! ## Loops -/

/-- A loop's rule, from the three slots it works on. -/
theorem mixing_rule (b : Fin 2) {av bv : FVec F S16 .f32} {fx fp g : S2x128x128.Idx → F .f32} {A B : sProp 𝕄}
    (h : Mixing d L b av bv fx fp g 0 ⊢ iprop((Mixing d L b av bv fx fp g 16384 -∗ A) -∗ B)) :
    iprop((xB.view.loc (tV d L) ↦[slotSet b]{fullShare} fx) ∗ (pB.view.loc (tV d L) ↦[slotSet b]{fullShare} fp)
        ∗ (oB.view.loc (tV d L) ↦[slotSet b]{fullShare} g))
      ⊢ iprop((iprop((xB.view.loc (tV d L) ↦[slotSet b]{fullShare} fx) ∗ (pB.view.loc (tV d L) ↦[slotSet b]{fullShare} fp)
          ∗ (oB.view.loc (tV d L) ↦[slotSet b]{fullShare} mixed av bv fx fp g 16384)) -∗ A) -∗ B) := by
  unfold Mixing at h
  rwa [mixed_zero] at h

/-- The four mixing loops. -/
theorem wp_loop1 (av bv : FVec F S16 .f32) (fx fp fo : S2x128x128.Idx → F .f32) {α : Type} {k : Unit → TileProg F L α} {Q : α → sProp 𝕄} :
    Mixing d L 0 av bv fx fp fo 0 ⊢ iprop((Mixing d L 0 av bv fx fp fo 16384 -∗ WP d L (k ⟨⟩) Q) -∗ WP d L (loop1 L av bv >>= k) Q) :=
  wp_rows d L 0 av bv fx fp fo k0_t1_loop k0_t1_ok rfl _ off1 off1_inb off1_eq fun _ => rfl
theorem wp_loop2 (av bv : FVec F S16 .f32) (fx fp fo : S2x128x128.Idx → F .f32) {α : Type} {k : Unit → TileProg F L α} {Q : α → sProp 𝕄} :
    Mixing d L 1 av bv fx fp fo 0 ⊢ iprop((Mixing d L 1 av bv fx fp fo 16384 -∗ WP d L (k ⟨⟩) Q) -∗ WP d L (loop2 L av bv >>= k) Q) :=
  wp_rows d L 1 av bv fx fp fo k0_t2_loop k0_t2_ok rfl _ off2 off2_inb off2_eq fun _ => rfl
theorem wp_loop3 (av bv : FVec F S16 .f32) (fx fp fo : S2x128x128.Idx → F .f32) {α : Type} {k : Unit → TileProg F L α} {Q : α → sProp 𝕄} :
    Mixing d L 0 av bv fx fp fo 0 ⊢ iprop((Mixing d L 0 av bv fx fp fo 16384 -∗ WP d L (k ⟨⟩) Q) -∗ WP d L (loop3 L av bv >>= k) Q) :=
  wp_rows d L 0 av bv fx fp fo k0_t3_loop k0_t3_ok rfl _ off3 off3_inb off3_eq fun _ => rfl
theorem wp_loop4 (av bv : FVec F S16 .f32) (fx fp fo : S2x128x128.Idx → F .f32) {α : Type} {k : Unit → TileProg F L α} {Q : α → sProp 𝕄} :
    Mixing d L 1 av bv fx fp fo 0 ⊢ iprop((Mixing d L 1 av bv fx fp fo 16384 -∗ WP d L (k ⟨⟩) Q) -∗ WP d L (loop4 L av bv >>= k) Q) :=
  wp_rows d L 1 av bv fx fp fo k0_t4_loop k0_t4_ok rfl _ off4 off4_inb off4_eq fun _ => rfl

end Cert.Proof.Mix

end
-- ==== Proof.Body.lean ====
/-
  The tile's program run: from its shares of `x`, of the row numbers and of `alpha` and its four chunks of the result,
  the chunks hold what the kernel computes.
-/
module

public import proofs.«01_k».proof.Proof.Steps

@[expose] public section

noncomputable section

namespace Cert.Proof.Mix

open Cert.KernelIdeal Cert.KernelIdeal.Gen
open Idealize.ShloMosaic
open Idealize.ShloMosaic.ValueIdx
open Idealize.ShloMosaic.SparseCore (S V T)
open Idealize.ShloMosaic.SparseCore.Cfg (HIx Pay ownCells mem_ownCells ownRefs ownSems0 ownBufs)
open Idealize.SL Idealize.SL.RA Idealize.SL.BI
open scoped Idealize.SL.BI
open Idealize.SL.BI.BIBase Idealize.SL.BI.Laws Idealize.SL.ProofMode Idealize.SL.Sem
open Idealize.ShloMosaic.Tactic

variable {F : FTy → Type} [FloatOps F]

local notation "𝕄" => MT nD τ sig (HIx 1) (Elt F) ℕ UU ℕ

variable (d : Dev nD) (L : grid0.Coords)

/-- The tile's inputs: `x`, the row numbers and `alpha` at share `q`. -/
def Inputs (q : PosShare TreeShare) (fx : S16384x128.Idx → F .f32) (fr : S32x4x128.Idx → BitVec 32) (fa : S16.Idx → F .f32) : sProp 𝕄 :=
  iprop((xH.view.loc (tV d L) ↦{q} fx) ∗ (rH.view.loc (tV d L) ↦{q} fr) ∗ (sH.view.loc (tV d L) ↦{q} fa))

/-- The tile's chunks of the result. -/
def Chunks (f : S16384x128.Idx → F .f32) : sProp 𝕄 :=
  bigSep Finset.univ fun r : Fin 4 => oH.view.loc (tV d L) ↦[chunkSet (cnum L r)]{fullShare} f

/-- The list, whole, is its four rows. -/
theorem list_rows (f : S4x128.Idx → BitVec 32) :
    (idxB.view.loc (tV d L) ↦{fullShare} f : sProp 𝕄)
      = iprop((idxB.view.loc (tV d L) ↦[lrowSet 0]{fullShare} f) ∗ (idxB.view.loc (tV d L) ↦[lrowSet 1]{fullShare} f)
          ∗ (idxB.view.loc (tV d L) ↦[lrowSet 2]{fullShare} f) ∗ (idxB.view.loc (tV d L) ↦[lrowSet 3]{fullShare} f)) :=
  (whole_parts (ℓ := idxB.view.loc (tV d L)) lrowSet lrow_disjoint lrow_cover fullShare f).trans (bigSep_four _)

set_option maxHeartbeats 4000000 in
/-- The tile's program leaves its inputs as they are and its chunks at what the kernel computes. -/
theorem wp_tileProg (q : PosShare TreeShare) (fx : S16384x128.Idx → F .f32) (fr : S32x4x128.Idx → BitVec 32) (fa : S16.Idx → F .f32)
    (hin : ∀ j, (fr j).toNat < 16384) (f : S16384x128.Idx → F .f32) (O : CellTallies nD τ sig (HIx 1)) (W : Waits sig (HIx 1)) :
    iprop(Transfers.MayWaits (tV d L) (default : HIx 1) O ∗ Inputs d L q fx fr fa ∗ Chunks d L f ∗ Bufs d L ∗ Sems d L ∗ Owing d L O W)
      ⊢ WP d L (tileProg L) fun _ => iprop((Inputs d L q fx fr fa ∗ Chunks d L (result fx fr fa hin)) ∗ Bufs d L ∗ Sems d L ∗ Owing d L O W) := by
  unfold Inputs Chunks Bufs Sems
  rw [bigSep_four, bigSep_four, pointsTo_toks4 (ℓ := xH.view.loc (tV d L)) q fx]
  unfold tileProg
  iintro ⟨#Hmw, ⟨⟨Hx0, Hx1, Hx2, Hx3⟩, Hr, Ha⟩, ⟨Hc0, Hc1, Hc2, Hc3⟩, ⟨⟨%gi, Hi⟩, ⟨%gx, Hgx⟩, ⟨%gp, Hgp⟩, ⟨%go, Hgo⟩, ⟨%ga, Hga⟩⟩,
    ⟨Sa, Sl, Sg0, Sg1, Sx0, Sx1, So0, So1⟩, HO⟩
  ihave Hgx := (Entails.of_eq (two_split (ℓ := xB.view.loc (tV d L)) slotSet slot_disjoint slot_cover gx)) $$ Hgx
  icases Hgx with ⟨Bx0, Bx1⟩
  ihave Hgp := (Entails.of_eq (two_split (ℓ := pB.view.loc (tV d L)) slotSet slot_disjoint slot_cover gp)) $$ Hgp
  icases Hgp with ⟨Bp0, Bp1⟩
  ihave Hgo := (Entails.of_eq (two_split (ℓ := oB.view.loc (tV d L)) slotSet slot_disjoint slot_cover go)) $$ Hgo
  icases Hgo with ⟨Bo0, Bo1⟩
  -- the copies of `alpha`, of the list, of the first two chunks
  iapply (wp_alphaIn d L fa ga) $$ [Ha Hga Sa]
  · isplitl [Ha]; · iexact Ha
    isplitl [Hga] <;> iassumption
  iintro Fa
  iapply (wp_listIn d L fr gi) $$ [Hr Hi Sl]
  · isplitl [Hr]; · iexact Hr
    isplitl [Hi] <;> iassumption
  iintro Fl
  iapply (wp_fetch d L 0 0 fx gx) $$ [Hx0 Bx0 Sx0]
  · isplitl [Hx0]; · iexact Hx0
    isplitl [Bx0] <;> iassumption
  iintro Fx0
  iapply (wp_fetch d L 1 1 fx gx) $$ [Hx1 Bx1 Sx1]
  · isplitl [Hx1]; · iexact Hx1
    isplitl [Bx1] <;> iassumption
  iintro Fx1
  -- the list, the first two gathers
  iapply (wp_listWait d L) $$ [Fl HO]
  · isplitr; · iexact Hmw
    isplitl [Fl] <;> iassumption
  iintro ⟨⟨Hi, Hr⟩, Sl, HO⟩
  ihave Hi := (Entails.of_eq (list_rows d L (listAt L fr))) $$ Hi
  icases Hi with ⟨Hl0, Hl1, Hl2, Hl3⟩
  iapply (wp_gather d L 0 0 fx fr hin gp) $$ [Hx2 Bp0 Hl0 Sg0]
  · isplitl [Hx2]; · iexact Hx2
    isplitl [Bp0]; · iexact Bp0
    isplitl [Hl0] <;> iassumption
  iintro Fg0
  iapply (wp_gather d L 1 1 fx fr hin gp) $$ [Hx3 Bp1 Hl1 Sg1]
  · isplitl [Hx3]; · iexact Hx3
    isplitl [Bp1]; · iexact Bp1
    isplitl [Hl1] <;> iassumption
  iintro Fg1
  -- `alpha`
  iapply (wp_alphaWait d L) $$ [Fa HO]
  · isplitr; · iexact Hmw
    isplitl [Fa] <;> iassumption
  iintro ⟨⟨Hga, Ha⟩, Sa, HO⟩
  iapply (wp_alphaRead d L fa) $$ Hga
  iintro Hga
  -- chunk 0, and the start of chunk 2
  iapply (wp_gatherWait d L 0) $$ [Fg0 HO]
  · isplitr; · iexact Hmw
    isplitl [Fg0] <;> iassumption
  iintro ⟨⟨Bp0, Hx2, Hl0⟩, Sg0, HO⟩
  iapply (wp_fetchWait d L 0 0) $$ [Fx0 HO]
  · isplitr; · iexact Hmw
    isplitl [Fx0] <;> iassumption
  iintro ⟨⟨Bx0, Hx0⟩, Sx0, HO⟩
  iapply (mixing_rule d L 0 (wp_loop1 d L (k0_pay41 fa) (k0_pay42 fa) _ _ _)) $$ [Bx0 Bp0 Bo0]
  · isplitl [Bx0]; · iexact Bx0
    isplitl [Bp0] <;> iassumption
  iintro ⟨Bx0, Bp0, Bo0⟩
  iapply (wp_put d L 0 0 fx fr fa hin _ f) $$ [Bo0 Hc0 So0]
  · isplitl [Bo0]; · iexact Bo0
    isplitl [Hc0] <;> iassumption
  iintro Fo0
  iapply (wp_gather d L 2 0 fx fr hin _) $$ [Hx2 Bp0 Hl2 Sg0]
  · isplitl [Hx2]; · iexact Hx2
    isplitl [Bp0]; · iexact Bp0
    isplitl [Hl2] <;> iassumption
  iintro Fg0
  iapply (wp_fetch d L 2 0 fx _) $$ [Hx0 Bx0 Sx0]
  · isplitl [Hx0]; · iexact Hx0
    isplitl [Bx0] <;> iassumption
  iintro Fx0
  -- chunk 1, and the start of chunk 3
  iapply (wp_gatherWait d L 1) $$ [Fg1 HO]
  · isplitr; · iexact Hmw
    isplitl [Fg1] <;> iassumption
  iintro ⟨⟨Bp1, Hx3, Hl1⟩, Sg1, HO⟩
  iapply (wp_fetchWait d L 1 1) $$ [Fx1 HO]
  · isplitr; · iexact Hmw
    isplitl [Fx1] <;> iassumption
  iintro ⟨⟨Bx1, Hx1⟩, Sx1, HO⟩
  iapply (mixing_rule d L 1 (wp_loop2 d L (k0_pay41 fa) (k0_pay42 fa) _ _ _)) $$ [Bx1 Bp1 Bo1]
  · isplitl [Bx1]; · iexact Bx1
    isplitl [Bp1] <;> iassumption
  iintro ⟨Bx1, Bp1, Bo1⟩
  iapply (wp_put d L 1 1 fx fr fa hin _ f) $$ [Bo1 Hc1 So1]
  · isplitl [Bo1]; · iexact Bo1
    isplitl [Hc1] <;> iassumption
  iintro Fo1
  iapply (wp_gather d L 3 1 fx fr hin _) $$ [Hx3 Bp1 Hl3 Sg1]
  · isplitl [Hx3]; · iexact Hx3
    isplitl [Bp1]; · iexact Bp1
    isplitl [Hl3] <;> iassumption
  iintro Fg1
  iapply (wp_fetch d L 3 1 fx _) $$ [Hx1 Bx1 Sx1]
  · isplitl [Hx1]; · iexact Hx1
    isplitl [Bx1] <;> iassumption
  iintro Fx1
  -- chunk 2
  iapply (wp_gatherWait d L 0) $$ [Fg0 HO]
  · isplitr; · iexact Hmw
    isplitl [Fg0] <;> iassumption
  iintro ⟨⟨Bp0, Hx2, Hl2⟩, Sg0, HO⟩
  iapply (wp_fetchWait d L 2 0) $$ [Fx0 HO]
  · isplitr; · iexact Hmw
    isplitl [Fx0] <;> iassumption
  iintro ⟨⟨Bx0, Hx0⟩, Sx0, HO⟩
  iapply (wp_putWait d L 0 0) $$ [Fo0 HO]
  · isplitr; · iexact Hmw
    isplitl [Fo0] <;> iassumption
  iintro ⟨⟨Hc0, Bo0⟩, So0, HO⟩
  iapply (mixing_rule d L 0 (wp_loop3 d L (k0_pay41 fa) (k0_pay42 fa) _ _ _)) $$ [Bx0 Bp0 Bo0]
  · isplitl [Bx0]; · iexact Bx0
    isplitl [Bp0] <;> iassumption
  iintro ⟨Bx0, Bp0, Bo0⟩
  iapply (wp_put d L 2 0 fx fr fa hin _ f) $$ [Bo0 Hc2 So0]
  · isplitl [Bo0]; · iexact Bo0
    isplitl [Hc2] <;> iassumption
  iintro Fo0
  -- chunk 3
  iapply (wp_gatherWait d L 1) $$ [Fg1 HO]
  · isplitr; · iexact Hmw
    isplitl [Fg1] <;> iassumption
  iintro ⟨⟨Bp1, Hx3, Hl3⟩, Sg1, HO⟩
  iapply (wp_fetchWait d L 3 1) $$ [Fx1 HO]
  · isplitr; · iexact Hmw
    isplitl [Fx1] <;> iassumption
  iintro ⟨⟨Bx1, Hx1⟩, Sx1, HO⟩
  iapply (wp_putWait d L 1 1) $$ [Fo1 HO]
  · isplitr; · iexact Hmw
    isplitl [Fo1] <;> iassumption
  iintro ⟨⟨Hc1, Bo1⟩, So1, HO⟩
  iapply (mixing_rule d L 1 (wp_loop4 d L (k0_pay41 fa) (k0_pay42 fa) _ _ _)) $$ [Bx1 Bp1 Bo1]
  · isplitl [Bx1]; · iexact Bx1
    isplitl [Bp1] <;> iassumption
  iintro ⟨Bx1, Bp1, Bo1⟩
  iapply (wp_put d L 3 1 fx fr fa hin _ f) $$ [Bo1 Hc3 So1]
  · isplitl [Bo1]; · iexact Bo1
    isplitl [Hc3] <;> iassumption
  iintro Fo1
  -- the last two results
  iapply (wp_putWait d L 2 0) $$ [Fo0 HO]
  · isplitr; · iexact Hmw
    isplitl [Fo0] <;> iassumption
  iintro ⟨⟨Hc2, Bo0⟩, So0, HO⟩
  iapply (wp_putWait d L 3 1) $$ [Fo1 HO]
  · isplitr; · iexact Hmw
    isplitl [Fo1] <;> iassumption
  iintro ⟨⟨Hc3, Bo1⟩, So1, HO⟩
  iapply (wp_done d L)
  ihave Hgx := (two_join (ℓ := xB.view.loc (tV d L)) slotSet slot_disjoint slot_cover _ _) $$ [Bx0 Bx1]
  · isplitl [Bx0] <;> iassumption
  ihave Hgp := (two_join (ℓ := pB.view.loc (tV d L)) slotSet slot_disjoint slot_cover _ _) $$ [Bp0 Bp1]
  · isplitl [Bp0] <;> iassumption
  ihave Hgo := (two_join (ℓ := oB.view.loc (tV d L)) slotSet slot_disjoint slot_cover _ _) $$ [Bo0 Bo1]
  · isplitl [Bo0] <;> iassumption
  ihave Hi := (Entails.of_eq (list_rows d L (listAt L fr)).symm) $$ [Hl0 Hl1 Hl2 Hl3]
  · isplitl [Hl0]; · iexact Hl0
    isplitl [Hl1]; · iexact Hl1
    isplitl [Hl2] <;> iassumption
  isplitl [Hx0 Hx1 Hx2 Hx3 Hr Ha Hc0 Hc1 Hc2 Hc3]
  · isplitl [Hx0 Hx1 Hx2 Hx3 Hr Ha]
    · isplitl [Hx0 Hx1 Hx2 Hx3]
      · isplitl [Hx0]; · iexact Hx0
        isplitl [Hx1]; · iexact Hx1
        isplitl [Hx2] <;> iassumption
      isplitl [Hr] <;> iassumption
    isplitl [Hc0]; · iexact Hc0
    isplitl [Hc1]; · iexact Hc1
    isplitl [Hc2] <;> iassumption
  isplitl [Hi Hgx Hgp Hgo Hga]
  · isplitl [Hi]; · iexists _; iexact Hi
    isplitl [Hgx]; · iexact Hgx
    isplitl [Hgp]; · iexact Hgp
    isplitl [Hgo]; · iexact Hgo
    iexists _; iexact Hga
  isplitr [HO]; swap; · iexact HO
  isplitl [Sa]; · iexact Sa
  isplitl [Sl]; · iexact Sl
  isplitl [Sg0]; · iexact Sg0
  isplitl [Sg1]; · iexact Sg1
  isplitl [Sx0]; · iexact Sx0
  isplitl [Sx1]; · iexact Sx1
  isplitl [So0] <;> iassumption

end Cert.Proof.Mix

end
-- ==== Proof.Launch.lean ====
/-
  What the launch hands the SparseCores and their tiles, and what comes back: each tile's shares of the inputs and its
  four chunks of the result, the chunks at what the kernel computes.
-/
module

public import proofs.«01_k».proof.Proof.Body

@[expose] public section

noncomputable section

namespace Cert.Proof.Mix

open Cert.KernelIdeal Cert.KernelIdeal.Gen
open Idealize.ShloMosaic
open Idealize.ShloMosaic.ValueIdx
open Idealize.ShloMosaic.SparseCore (S V T)
open Idealize.ShloMosaic.SparseCore.Cfg (HIx Pay ownCells mem_ownCells ownRefs ownSems0 ownBufs)
open Idealize.SL Idealize.SL.RA Idealize.SL.BI
open scoped Idealize.SL.BI
open Idealize.SL.BI.BIBase Idealize.SL.BI.Laws Idealize.SL.ProofMode Idealize.SL.Sem
open Idealize.ShloMosaic.Tactic

variable {F : FTy → Type} [FloatOps F]

local notation "𝕄" => MT nD τ sig (HIx 1) (Elt F) ℕ UU ℕ

variable (m : (ℓ : Loc nD τ sig) → Buf (Elt F) ℓ)

/-! ## The kernel's operands -/

/-- The row numbers as the kernel takes them. -/
def rowNos (d : Dev nD) : S32x4x128.Idx → BitVec 32 :=
  shapeCast S32x4x128 (m (pLoc d) : S16384.Idx → BitVec 32) shapeCasts_S16384_S32x4x128

/-- `alpha`, sixteen times. -/
def alphas (d : Dev nD) : S16.Idx → F .f32 := broadcastInDim S16 ![] bcast_S_S16 (m (aLoc d) : S_.Idx → F .f32)

/-- Every row number names a row of `x`. -/
def PreOK : Prop := ∀ (d : Dev nD) (j : S16384.Idx), ((m (pLoc d) : S16384.Idx → BitVec 32) j).toNat < 16384

variable {m}

theorem rowNos_lt (hpre : PreOK m) (d : Dev nD) (j : S32x4x128.Idx) : (rowNos m d j).toNat < 16384 := hpre d _

variable (m)

/-- What the kernel leaves in its result. -/
def out (hpre : PreOK m) (d : Dev nD) : S16384x128.Idx → F .f32 := result (m (xLoc d)) (rowNos m d) (alphas m d) (rowNos_lt hpre d)

/-! ## Shares and pieces -/

/-- The share of the inputs of SparseCore `c`, and of its tile `s`. -/
abbrev coreShare (c : Fin 2) : PosShare TreeShare := ShareLeaves.leaf 1 fullShare c
abbrev tileShare (c : Fin 2) (s : Fin 16) : PosShare TreeShare := ShareLeaves.leaf 4 (coreShare c) s

/-- The inputs at a share. -/
def Ins (d : Dev nD) (q : PosShare TreeShare) : sProp 𝕄 :=
  iprop((xLoc d ↦{q} m (xLoc d)) ∗ (rLoc d ↦{q} rowNos m d) ∗ (sLoc d ↦{q} alphas m d))

/-- The result's chunks of tile `s` of SparseCore `c`. -/
def Outs (d : Dev nD) (f : S16384x128.Idx → F .f32) (c : Fin 2) (s : Fin 16) : sProp 𝕄 :=
  bigSep Finset.univ fun r : Fin 4 => oLoc d ↦[chunkSet (chunkNo (c, s, r))]{fullShare} f

instance Ins_storable (d : Dev nD) (q : PosShare TreeShare) : BI.Storable (upEmb : UEmb _ 𝕄) (Ins m d q) := by unfold Ins; infer_instance
instance Outs_storable (d : Dev nD) (f : S16384x128.Idx → F .f32) (c : Fin 2) (s : Fin 16) : BI.Storable (upEmb : UEmb _ 𝕄) (Outs d f c s) := by
  unfold Outs; infer_instance

/-- The inputs at a share are the inputs at its leaves. -/
theorem Ins_leaves (d : Dev nD) (n : ℕ) (q : PosShare TreeShare) :
    Ins m d q = bigSep Finset.univ fun i : Fin (2 ^ n) => Ins m d (ShareLeaves.leaf n q i) := by
  unfold Ins
  rw [bigSep_sep', bigSep_sep', ← ShareLeaves.pointsTo_leaves, ← ShareLeaves.pointsTo_leaves, ← ShareLeaves.pointsTo_leaves]

/-- The result, whole, is the tiles' chunks. -/
theorem out_chunks (d : Dev nD) (f : S16384x128.Idx → F .f32) :
    (oLoc d ↦{fullShare} f : sProp 𝕄) = bigSep Finset.univ fun c : Fin 2 => bigSep Finset.univ fun s : Fin 16 => Outs d f c s := by
  unfold Outs
  refine (whole_parts (ℓ := oLoc d) (fun p : Fin 2 × Fin 16 × Fin 4 => chunkSet (chunkNo p)) chunk_disjoint chunk_cover fullShare f).trans ?_
  rw [bigSep_univ_prod]
  exact bigSep_congr fun c _ => bigSep_univ_prod _

/-! ## What the launch carries -/

/-- The call hands each SparseCore its share of the inputs and its chunks, the SparseCore each tile its own; the chunks
    come back at what the kernel computes. -/
def P (hpre : PreOK m) : (K (F := F)).Pay (nD := nD) (Val := Elt F) (Name := ℕ) (U := UU) where
  st := fun q d c => match q with
    | 0 => iprop(Ins m d (coreShare (Fin.cast nCore_zero c)) ∗ bigSep Finset.univ fun s : Fin 16 => Outs d (m (oLoc d)) (Fin.cast nCore_zero c) s)
  dn := fun q d c => match q with
    | 0 => iprop(Ins m d (coreShare (Fin.cast nCore_zero c)) ∗ bigSep Finset.univ fun s : Fin 16 => Outs d (out m hpre d) (Fin.cast nCore_zero c) s)
  go := fun q d c i => match q with
    | 0 => iprop(Ins m d (tileShare (Fin.cast nCore_zero c) (Fin.cast nSub_zero i)) ∗ Outs d (m (oLoc d)) (Fin.cast nCore_zero c) (Fin.cast nSub_zero i))
  td := fun q d c i => match q with
    | 0 => iprop(Ins m d (tileShare (Fin.cast nCore_zero c) (Fin.cast nSub_zero i)) ∗ Outs d (out m hpre d) (Fin.cast nCore_zero c) (Fin.cast nSub_zero i))
  x := fun _ _ => iprop(emp)

instance P_storable (hpre : PreOK m) : (P m hpre).IsStorable where
  st q d c := match q with
    | 0 => (inferInstance : BI.Storable (upEmb : UEmb _ 𝕄)
      iprop(Ins m d (coreShare (Fin.cast nCore_zero c)) ∗ bigSep Finset.univ fun s : Fin 16 => Outs d (m (oLoc d)) (Fin.cast nCore_zero c) s))
  dn q d c := match q with
    | 0 => (inferInstance : BI.Storable (upEmb : UEmb _ 𝕄)
      iprop(Ins m d (coreShare (Fin.cast nCore_zero c)) ∗ bigSep Finset.univ fun s : Fin 16 => Outs d (out m hpre d) (Fin.cast nCore_zero c) s))
  go q d c i := match q with
    | 0 => (inferInstance : BI.Storable (upEmb : UEmb _ 𝕄)
      iprop(Ins m d (tileShare (Fin.cast nCore_zero c) (Fin.cast nSub_zero i)) ∗ Outs d (m (oLoc d)) (Fin.cast nCore_zero c) (Fin.cast nSub_zero i)))
  td q d c i := match q with
    | 0 => (inferInstance : BI.Storable (upEmb : UEmb _ 𝕄)
      iprop(Ins m d (tileShare (Fin.cast nCore_zero c) (Fin.cast nSub_zero i)) ∗ Outs d (out m hpre d) (Fin.cast nCore_zero c) (Fin.cast nSub_zero i)))

/-! ## A tile's task -/

/-- The grid coordinates of tile `s` of SparseCore `c`. -/
def coordsV (c : Fin (grid0.bound 0)) (s : Fin (grid0.bound 1)) : grid0.Coords :=
  fun | 0 => c | 1 => s | ⟨_ + 2, h⟩ => absurd h (Nat.not_lt.2 (Nat.le_add_left _ _))

/-- The task of tile `s` of SparseCore `c`. -/
theorem tile_task (d : Dev nD) (c : Fin (grid0.bound 0)) (s : Fin (grid0.bound 1)) (hF : (K (F := F)).Facts) (hpre : PreOK m)
    (O : CellTallies nD τ sig (HIx 1)) (W : Waits sig (HIx 1)) (hO : ∀ g, O g none = 0) :
    iprop(levAts (K (F := F)).L (K (F := F)).lev ∗ emp ∗ (Ins m d (tileShare c s) ∗ Outs d (m (oLoc d)) c s)
        ∗ scopedBufs (tV d (coordsV c s)) ∗ scopedSems0 (tV d (coordsV c s)) ∗ owes (tV d (coordsV c s)) O W)
      ⊢ wp frame (wpE (defs₀ (F := F)) 𝒱₀ (tV d (coordsV c s)) none) Set.univ (tileProg (coordsV c s))
          fun _ => iprop((Ins m d (tileShare c s) ∗ Outs d (out m hpre d) c s)
            ∗ scopedBufs (tV d (coordsV c s)) ∗ scopedSems0 (tV d (coordsV c s))
            ∗ ∃ W', ⌜∀ p ∈ W', p ∈ W ∨ p.2 = none ∨ p.2 = some (0 : Fin 1)⌝ ∗ owes (tV d (coordsV c s)) O W') := by
  generalize hL : coordsV c s = L
  have hin : ∀ f : S16384x128.Idx → F .f32, iprop(Ins m d (tileShare c s) ∗ Outs d f c s)
      = iprop(Inputs d L (tileShare c s) (m (xLoc d)) (rowNos m d) (alphas m d) ∗ Chunks d L f) := by
    intro f; subst hL; rfl
  rw [(K (F := F)).scopedBufs_V hF d (cV L) (jV L), SparseCore.Cfg.scopedSems0_V (Val := Elt F) d (cV L) (jV L), ownSems_tile, ownBufs_tile, hin, hin]
  iintro ⟨#Hlv, -, ⟨Hi, Hc⟩, ⟨Hb, Hbr⟩, ⟨Hs, Hsr⟩, HO⟩
  ihave Hmw := (show levAts (K (F := F)).L (K (F := F)).lev ⊢ Transfers.MayWaits (V d (cV L) (jV L)) (default : HIx 1) O from
    (K (F := F)).mayWaits_none (thr := V d (cV L) (jV L)) hO) $$ Hlv
  iapply (wp_wand frame (wpE (defs₀ (F := F)) 𝒱₀ (tV d L) none) Set.univ) $$ [Hmw Hi Hc Hb Hs HO]
  · iapply (wp_tileProg d L (tileShare c s) (m (xLoc d)) (rowNos m d) (alphas m d) (rowNos_lt hpre d) (m (oLoc d)) O W)
    isplitl [Hmw]; · iexact Hmw
    isplitl [Hi]; · iexact Hi
    isplitl [Hc]; · iexact Hc
    isplitl [Hb]; · iexact Hb
    isplitl [Hs]; · iexact Hs
    unfold Owing
    iexists W; isplitr
    · ipureintro; exact fun p hp => .inl hp
    · iexact HO
  iintro %_ ⟨Hio, Hb, Hs, HO⟩
  isplitl [Hio]; · iexact Hio
  isplitl [Hb Hbr]; · isplitl [Hb] <;> iassumption
  isplitl [Hs Hsr]; · isplitl [Hs] <;> iassumption
  unfold Owing
  icases HO with ⟨%W', %hW', HO⟩
  iexists W'; isplitr
  · ipureintro; exact fun p hp => (hW' p hp).imp_right Or.inl
  · iexact HO

theorem defs₀_vector (c : Fin τ.nSC) (s : Fin τ.nSub) :
    defs₀ (F := F) (.scVector c s) 0 ()
      = SparseCore.onTile hcore0 hsub0 (fun c s => cc0__mix_body (coordsV c s) xH (Memref.isWhole_whole _) rH (Memref.isWhole_whole _)
          sH (Memref.isWhole_whole _) oH (Memref.isWhole_whole _) idxB (Memref.isWhole_whole _) xB (Memref.isWhole_whole _) pB (Memref.isWhole_whole _)
          oB (Memref.isWhole_whole _) aB (Memref.isWhole_whole _)
          cc0_scratch5 cc0_scratch6 cc0_scratch7 cc0_scratch8 cc0_scratch9 cc0_scratch10 cc0_scratch11 cc0_scratch12) ⟨⟩ c s := rfl

set_option maxRecDepth 16384 in
/-- Every tile runs its task. -/
theorem tileObl (hF : (K (F := F)).Facts) (hpre : PreOK m) : (K (F := F)).TileObl (D (F := F)) 𝒱 (P m hpre) v₀ 0 := by
  intro d c i O W hO _ _
  simp only [show (P m hpre).ox = fun _ _ => 0 from rfl, add_zero]
  have hci : ((K (F := F)).core 0 c).val < grid0.bound 0 ∧ ((K (F := F)).sub 0 i).val < grid0.bound 1 := ⟨c.isLt, i.isLt⟩
  change _ ⊢ wp _ _ _ (Pipeline.liftProg (defs₀ (F := F) (.scVector ((K (F := F)).core 0 c) ((K (F := F)).sub 0 i)) 0 ())) _
  refine BI.Entails.trans ?_ (Pipeline.wp_liftProg (D (F := F)) (Pipeline.defs_kernel pcfgs defs₀) 𝒱₀ _ Set.univ none _ _)
  rw [defs₀_vector]; simp only [SparseCore.onTile, hci, and_self, ↓reduceDIte]
  rw [tileProg_eq]
  exact tile_task m d ⟨_, hci.1⟩ ⟨_, hci.2⟩ hF hpre O W hO

/-! ## A SparseCore's share is its tiles' -/

theorem bigSep_tasks (Φ : Fin 16 → sProp 𝕄) :
    (bigSep Finset.univ fun i : Fin ((K (F := F)).nSub 0) => Φ (Fin.cast nSub_zero i)) = bigSep Finset.univ Φ :=
  bigSep_congr fun _ _ => congrArg Φ (Fin.ext rfl)

/-- The tiles' shares of the inputs and their chunks are the SparseCore's. -/
theorem tiles_eq (d : Dev nD) (c : Fin 2) (f : S16384x128.Idx → F .f32) :
    (bigSep Finset.univ fun i : Fin ((K (F := F)).nSub 0) => iprop(Ins m d (tileShare c (Fin.cast nSub_zero i)) ∗ Outs d f c (Fin.cast nSub_zero i)))
      = iprop(Ins m d (coreShare c) ∗ bigSep Finset.univ fun s : Fin 16 => Outs d f c s) := by
  rw [bigSep_tasks (fun s => iprop(Ins m d (tileShare c s) ∗ Outs d f c s)), bigSep_sep', Ins_leaves m d 4 (coreShare c)]
  rfl

theorem vecSplit (hpre : PreOK m) : (K (F := F)).VecSplit' (P m hpre) 0 := by
  intro d c
  show iprop(Ins m d (coreShare (Fin.cast nCore_zero c)) ∗ bigSep Finset.univ fun s : Fin 16 => Outs d (m (oLoc d)) (Fin.cast nCore_zero c) s)
    ⊢ |={Set.univ}=> iprop(
      (bigSep Finset.univ fun i : Fin ((K (F := F)).nSub 0) =>
        iprop(Ins m d (tileShare (Fin.cast nCore_zero c) (Fin.cast nSub_zero i)) ∗ Outs d (m (oLoc d)) (Fin.cast nCore_zero c) (Fin.cast nSub_zero i)))
      ∗ ((bigSep Finset.univ fun i : Fin ((K (F := F)).nSub 0) =>
          iprop(Ins m d (tileShare (Fin.cast nCore_zero c) (Fin.cast nSub_zero i)) ∗ Outs d (out m hpre d) (Fin.cast nCore_zero c) (Fin.cast nSub_zero i)))
        -∗ iprop(Ins m d (coreShare (Fin.cast nCore_zero c)) ∗ bigSep Finset.univ fun s : Fin 16 => Outs d (out m hpre d) (Fin.cast nCore_zero c) s)))
  rw [tiles_eq, tiles_eq]
  iintro H; imodintro
  isplitl [H]; · iexact H
  iintro H; iexact H

/-! ## The two SparseCores' shares are the arrays -/

/-- What the call hands in, and what it brings back, over the two SparseCores. -/
theorem cores_eq (d : Dev nD) (f : S16384x128.Idx → F .f32) :
    (bigSep Finset.univ fun c : Fin ((K (F := F)).nCore 0) =>
        iprop(Ins m d (coreShare (Fin.cast nCore_zero c)) ∗ bigSep Finset.univ fun s : Fin 16 => Outs d f (Fin.cast nCore_zero c) s))
      = iprop(Ins m d fullShare ∗ oLoc d ↦{fullShare} f) := by
  rw [Ins_leaves m d 1 fullShare, out_chunks]
  exact bigSep_sep' (s := (Finset.univ : Finset (Fin 2))) (Φ := fun c => Ins m d (coreShare c)) (Ψ := fun c => bigSep Finset.univ fun s : Fin 16 => Outs d f c s)

end Cert.Proof.Mix

end
-- ==== Proof.Run.lean ====
/-
  The whole program: the row numbers reshaped, `alpha` repeated, and the call; at its end the arguments hold what they
  held and the result what the tiles compute.
-/
module

public import proofs.«01_k».proof.Proof.Launch
public import Idealize.ShloMosaic.Lib.ReduceAll

@[expose] public section

noncomputable section

namespace Cert.Proof.Mix

open Cert.KernelIdeal Cert.KernelIdeal.Gen
open Idealize.ShloMosaic
open Idealize.ShloMosaic.ValueIdx
open Idealize.ShloMosaic.SparseCore (S V T)
open Idealize.ShloMosaic.SparseCore.Cfg (HIx Pay ownCells mem_ownCells ownRefs ownSems0 ownBufs)
open Idealize.SL Idealize.SL.RA Idealize.SL.BI
open scoped Idealize.SL.BI
open Idealize.SL.BI.BIBase Idealize.SL.BI.Laws Idealize.SL.ProofMode Idealize.SL.Sem
open Idealize.ShloMosaic.Tactic

variable {F : FTy → Type} [FloatOps F]

local notation "𝕄" => MT nD τ sig (HIx 1) (Elt F) ℕ UU ℕ

open Idealize.ShloMosaic.Rounds
open Idealize.ShloMosaic.StableHlo (held wp_hlo_within)

variable (m : (ℓ : Loc nD τ sig) → Buf (Elt F) ℓ)
variable (ρ : Dev nD → PrngReg)

/-! ## The ghost state at the launch -/

def u₀ : UU := (initOf (K (F := F)).hsCells (K (F := F)).hsToks, 1)

theorem hu₀ (hpre : PreOK m) : (ownU (u₀ (F := F)) : sProp 𝕄)
    ⊢ |={Set.univ}=> iprop(BI.own (EH (initOf (K (F := F)).hsCells (K (F := F)).hsToks)) ∗ (bigSep Finset.univ fun _ : Dev nD => iprop(emp))
        ∗ bigSep Finset.univ fun thr : Thread nD τ => bigSep Finset.univ fun q : Fin 1 => (P m hpre).x q thr) := by
  have hx : (bigSep Finset.univ fun thr : Thread nD τ => bigSep Finset.univ fun q : Fin 1 => (P m hpre).x q thr) = (iprop(emp) : sProp 𝕄) :=
    (bigSep_congr fun _ _ => bigSep_univ_of_subsingleton (0 : Fin 1)).trans (bigSep_emp_const _)
  have he : (bigSep Finset.univ fun _ : Dev nD => iprop(emp)) = (iprop(emp) : sProp 𝕄) := bigSep_emp_const _
  rw [hx, he]
  unfold u₀
  iintro Hu
  ihave H := (ownU_pair (initOf (K (F := F)).hsCells (K (F := F)).hsToks) (1 : Counters)) $$ Hu
  icases H with ⟨HH, -⟩
  imodintro
  isplitl [HH]; · iexact HH
  isplitr <;> iempintro

/-! ## The program's arrays -/

abbrev x' : DevRef τ sig := Proc.devRef .tc (main_arg0 : Ref sig .tc)
abbrev p' : DevRef τ sig := Proc.devRef .tc (main_arg1 : Ref sig .tc)
abbrev a' : DevRef τ sig := Proc.devRef .tc (main_arg2 : Ref sig .tc)
abbrev r' : DevRef τ sig := Proc.devRef .tc (main_v0 : Ref sig .tc)
abbrev s' : DevRef τ sig := Proc.devRef .tc (main_v1 : Ref sig .tc)
abbrev o' : DevRef τ sig := Proc.devRef .tc (main_v2 : Ref sig .tc)
abbrev opRows : HloOp τ sig (Elt F) := StableHlo.reshape main_arg1 main_v0 (rfl : (.i32 : EltTy) = .i32) shapeCasts_S16384_S32x4x128
abbrev opAlphas : HloOp τ sig (Elt F) := StableHlo.unary main_arg2 main_v1
  (broadcastInDim S16 ![] bcast_S_S16 : (⟨S_, .f32⟩ : BufTy).Contents (Elt F) → (⟨S16, .f32⟩ : BufTy).Contents (Elt F))

/-- The three arguments, the kernel's two operands made of them, and the result. -/
abbrev S6 : Finset (DevRef τ sig) := {x', p', a', r', s', o'}

/-- The six arrays at their contents under `W`. -/
abbrev six (d : Dev nD) (fx : Buf (Elt F) (xLoc d)) (fp : Buf (Elt F) (pLoc d)) (fa : Buf (Elt F) (aLoc d)) (fr : Buf (Elt F) (rLoc d))
    (fs : Buf (Elt F) (sLoc d)) (fo : Buf (Elt F) (oLoc d)) : sProp 𝕄 :=
  iprop((xLoc d ↦{fullShare} fx) ∗ (pLoc d ↦{fullShare} fp) ∗ (aLoc d ↦{fullShare} fa) ∗ (rLoc d ↦{fullShare} fr)
    ∗ (sLoc d ↦{fullShare} fs) ∗ oLoc d ↦{fullShare} fo)

omit [FloatOps F] in
theorem held_six (d : Dev nD) (W : Valuation τ sig (Elt F)) :
    (held (T d) S6 W : sProp 𝕄) = six d (W x') (W p') (W a') (W r') (W s') (W o') := by
  unfold held S6
  rw [SparseCore.bigSep_insert' (by decide), SparseCore.bigSep_insert' (by decide), SparseCore.bigSep_insert' (by decide),
    SparseCore.bigSep_insert' (by decide), SparseCore.bigSep_insert' (by decide), bigSep_singleton]

omit [FloatOps F] in
theorem unscopedBufs_six (d : Dev nD) (W : (b : Ref sig .tc) → Buf (Elt F) ((d.tc : Thread nD τ).loc b)) :
    (unscopedBufs d W : sProp 𝕄) = six d (W main_arg0) (W main_arg1) (W main_arg2) (W main_v0) (W main_v1) (W main_v2) := by
  unfold unscopedBufs
  rw [show (Finset.univ.filter fun b : Ref sig .tc => ¬ b.isScoped) = {main_arg0, main_arg1, main_arg2, main_v0, main_v1, main_v2} by decide,
    SparseCore.bigSep_insert' (by decide), SparseCore.bigSep_insert' (by decide), SparseCore.bigSep_insert' (by decide),
    SparseCore.bigSep_insert' (by decide), SparseCore.bigSep_insert' (by decide), bigSep_singleton]

/-- The arrays at the launch; after the reshape; and after the broadcast. -/
def V0 (d : Dev nD) : Valuation τ sig (Elt F) := fun b => m (d, b)
def V1 (d : Dev nD) : Valuation τ sig (Elt F) := (opRows (F := F)).result (V0 m d)
def V2 (d : Dev nD) : Valuation τ sig (Elt F) := (opAlphas (F := F)).result (V1 m d)

theorem unscoped_held (d : Dev nD) : (unscopedBufs d (fun b => m ((SparseCore.T d).loc b)) : sProp 𝕄) = held (T d) S6 (V0 m d) := by
  rw [unscopedBufs_six, held_six]; rfl

theorem V1_of_ne (d : Dev nD) (b : DevRef τ sig) (h : b ≠ r') : V1 m d b = V0 m d b :=
  (opRows (F := F)).result_of_not_mem _ (show b ∉ ({r'} : Finset (DevRef τ sig)) from fun e => h (Finset.mem_singleton.1 e))
theorem V2_of_ne (d : Dev nD) (b : DevRef τ sig) (h : b ≠ s') : V2 m d b = V1 m d b :=
  (opAlphas (F := F)).result_of_not_mem _ (show b ∉ ({s'} : Finset (DevRef τ sig)) from fun e => h (Finset.mem_singleton.1 e))

theorem V1_rows (d : Dev nD) : V1 m d r' = rowNos m d := StableHlo.reshape_result _ _ _ _ _ _ _
theorem V2_alphas (d : Dev nD) : V2 m d s' = alphas m d :=
  (StableHlo.unary_result _ _ _ _ _ _).trans (congrArg _ (V1_of_ne m d a' (by decide)))

/-- Before the call the two operands hold the row numbers and `alpha`; the rest is as it was launched. -/
theorem held_V2 (d : Dev nD) :
    (held (T d) S6 ((opAlphas (F := F)).result ((opRows (F := F)).result (V0 m d))) : sProp 𝕄)
      = six d (m (xLoc d)) (m (pLoc d)) (m (aLoc d)) (rowNos m d) (alphas m d) (m (oLoc d)) := by
  show held (T d) S6 (V2 m d) = _
  rw [held_six, V2_alphas, V2_of_ne m d x' (by decide), V2_of_ne m d p' (by decide), V2_of_ne m d a' (by decide), V2_of_ne m d r' (by decide),
    V2_of_ne m d o' (by decide), V1_rows, V1_of_ne m d x' (by decide), V1_of_ne m d p' (by decide), V1_of_ne m d a' (by decide),
    V1_of_ne m d o' (by decide)]
  rfl

theorem rows_bufs : (opRows (F := F)).bufs ⊆ S6 := show ({p', r'} : Finset (DevRef τ sig)) ⊆ S6 by decide
theorem alphas_bufs : (opAlphas (F := F)).bufs ⊆ S6 := show ({a', s'} : Finset (DevRef τ sig)) ⊆ S6 by decide

/-- The call takes the inputs whole and the result, -/
theorem st0_eq (hpre : PreOK m) (d : Dev nD) : (bigSep Finset.univ fun c : Fin ((K (F := F)).nCore 0) => (P m hpre).st 0 d c)
    = iprop(Ins m d fullShare ∗ oLoc d ↦{fullShare} m (oLoc d)) := cores_eq m d _
/-- and gives them back, the result at what the kernel computes. -/
theorem dn0_eq (hpre : PreOK m) (d : Dev nD) : (bigSep Finset.univ fun c : Fin ((K (F := F)).nCore 0) => (P m hpre).dn 0 d c)
    = iprop(Ins m d fullShare ∗ oLoc d ↦{fullShare} out m hpre d) := cores_eq m d _

/-! ## The program on the TensorCore -/

/-- What the program ends with: the arguments at their launch contents, the result at what the kernel computes. -/
abbrev FIN (hpre : PreOK m) (d : Dev nD) : sProp 𝕄 :=
  iprop((xLoc d ↦{fullShare} m (xLoc d)) ∗ (pLoc d ↦{fullShare} m (pLoc d)) ∗ (aLoc d ↦{fullShare} m (aLoc d))
    ∗ oLoc d ↦{fullShare} out m hpre d)

/-- The program: the reshape, the broadcast, the call. -/
theorem hmain (hpre : PreOK m) (κ : GSem nD τ sig → ℕ) (d : Dev nD) :
    iprop((K (F := F)).ctx EH (P m hpre) κ ∗ (K (F := F)).tcSt EH d 0 ∗ (K (F := F)).tcRes m ρ d ∗ emp)
      ⊢ wp frame (wpE ((K (F := F)).defs (D (F := F))) 𝒱 (SparseCore.T d) none) Set.univ (main d)
          fun _ => iprop((K (F := F)).tcSt EH d 1 ∗ FIN m hpre d ∗ (K (F := F)).tcEnd d) := by
  unfold SparseCore.Cfg.tcRes SparseCore.Cfg.tcEnd
  rw [unscoped_held]
  simp only [main, wp_bind, wp_pure]
  iintro ⟨#Hctx, Hst, ⟨Hb, Hheld, Hts, -⟩, -⟩
  iapply (wp_hlo_within 𝒱 (SparseCore.T d) none Set.univ (op := opRows) (S := S6) rows_bufs (V := V0 m d)) $$ [Hb Hheld]
  · isplitl [Hb] <;> iassumption
  iintro ⟨Hb, Hheld⟩
  rw [wp_ret]; imodintro
  iapply (wp_hlo_within 𝒱 (SparseCore.T d) none Set.univ (op := opAlphas) (S := S6) alphas_bufs (V := (opRows (F := F)).result (V0 m d))) $$ [Hb Hheld]
  · isplitl [Hb] <;> iassumption
  iintro ⟨Hb, Hheld⟩
  rw [wp_ret]; imodintro
  ihave Hh := (Entails.of_eq (held_V2 (F := F) m d)) $$ Hheld
  icases Hh with ⟨Hx, Hp, Ha, Hr, Hs, Ho⟩
  iapply ((K (F := F)).wp_run (D (F := F)) 𝒱 (EH := EH) (P := P m hpre) κ d 0) $$ [Hst Hx Hp Ha Hr Hs Ho Hb Hts]
  isplitr; · iexact Hctx
  isplitl [Hst]; · iexact Hst
  isplitl [Hx Hr Hs Ho]
  · rw [st0_eq]
    unfold Ins
    isplitl [Hx Hr Hs]
    · isplitl [Hx]; · iexact Hx
      isplitl [Hr] <;> iassumption
    iexact Ho
  iintro ⟨Hst, Hdn⟩
  ihave Hdn' := (Entails.of_eq (dn0_eq m hpre d)) $$ Hdn
  unfold Ins
  icases Hdn' with ⟨⟨Hx, -, -⟩, Ho⟩
  imodintro
  isplitl [Hst]; · iexact Hst
  isplitr [Hb Hts]
  · isplitl [Hx]; · iexact Hx
    isplitl [Hp]; · iexact Hp
    isplitl [Ha] <;> iassumption
  isplitl [Hb] <;> iassumption

/-! ## The program's run -/

/-- What a final state holds on device `d`. -/
def fq (hpre : PreOK m) (d : Dev nD) (s : Phys nD τ sig (Elt F)) : Prop :=
  s.mem.mem (xLoc d) = m (xLoc d) ∧ s.mem.mem (pLoc d) = m (pLoc d) ∧ s.mem.mem (aLoc d) = m (aLoc d) ∧ s.mem.mem (oLoc d) = out m hpre d

/-- An array held whole is what the memory holds. -/
theorem read_whole (ℓ : Loc nD τ sig) (f : Buf (Elt F) ℓ) (s : Phys nD τ sig (Elt F)) :
    iprop((ℓ ↦{fullShare} f) ∗ SI s) ⊢ iprop((⌜s.mem.mem ℓ = f⌝ : sProp 𝕄) ∗ SI s) := by
  iintro ⟨H, HSI⟩
  ihave H := (persistent_entails_right (SI_pointsTo_agree (st := s) (ℓ := ℓ) (I := Finset.univ) (q := fullShare) (f := f))) $$ [HSI H]
  · isplitl [HSI] <;> iassumption
  icases H with ⟨%h, HSI, -⟩
  isplitr
  · ipureintro; exact funext fun i => h i (Finset.mem_univ i)
  · iexact HSI

theorem hfin (hpre : PreOK m) (d : Dev nD) (s : Phys nD τ sig (Elt F)) : iprop(FIN m hpre d ∗ SI s) ⊢ (⌜fq m hpre d s⌝ : sProp 𝕄) := by
  iintro ⟨⟨Hx, Hp, Ha, Ho⟩, HSI⟩
  ihave H := (read_whole (xLoc d) (m (xLoc d)) s) $$ [Hx HSI]
  · isplitl [Hx] <;> iassumption
  icases H with ⟨%h1, HSI⟩
  ihave H := (read_whole (pLoc d) (m (pLoc d)) s) $$ [Hp HSI]
  · isplitl [Hp] <;> iassumption
  icases H with ⟨%h2, HSI⟩
  ihave H := (read_whole (aLoc d) (m (aLoc d)) s) $$ [Ha HSI]
  · isplitl [Ha] <;> iassumption
  icases H with ⟨%h3, HSI⟩
  ihave H := (read_whole (oLoc d) (out m hpre d) s) $$ [Ho HSI]
  · isplitl [Ho] <;> iassumption
  icases H with ⟨%h4, -⟩
  ipureintro; exact ⟨h1, h2, h3, h4⟩

/-- Every run of the program ends, with its semaphores at zero, its arguments as they were, and the result at what the
    kernel computes. -/
def QC (hpre : PreOK m) : PUnit × MemSt nD τ sig (Elt F) → Prop := fun r =>
  (∀ d : Dev nD, r.2.mem (xLoc d) = m (xLoc d) ∧ r.2.mem (pLoc d) = m (pLoc d) ∧ r.2.mem (aLoc d) = m (aLoc d) ∧ r.2.mem (oLoc d) = out m hpre d)
    ∧ r.2.sem = fun _ => 0

theorem run_main [∀ e, Nonempty (Elt F e)] (hpre : PreOK m) :
    θ_run (Cert.KernelIdeal.defs (F := F)) (Cert.KernelIdeal.threads (F := F)) ⟨m, fun _ => 0, ρ⟩ (QC m hpre) :=
  SparseCore.Cfg.θ_run_sc_quiescent (K := K (F := F)) (D := D (F := F)) (𝒱 := 𝒱) (EH := EH) (P := P m hpre) (A := ∅) facts v₀
    (fun q hq => match q with | 0 => nomatch hq)
    (fun q _ => match q with | 0 => tileObl m facts hpre)
    (fun q _ => match q with | 0 => SparseCore.Cfg.VecSplit.of_plain (vecSplit m hpre))
    m ρ main (fun _ => iprop(emp)) (FIN m hpre) (u₀ (F := F)) (sep_elim_left.trans (hu₀ m hpre)) (hmain m ρ hpre) (fq m hpre) (hfin m hpre)
    (QC m hpre) (fun _ h hz => ⟨h, hz⟩)

/-! ## The precondition -/

/-- A word that is at least 0 and less than 16384 as a signed number is below 16384. -/
theorem lt_of_range (v : BitVec 32) (h : IntOp.andi (IntOp.cmpi .sge v 0#32) (IntOp.cmpi .slt v 16384#32) = 1#1) : v.toNat < 16384 := by
  obtain ⟨h0, h1⟩ := IntOp.andi_eq_one.1 h
  have h0' : (0 : Int) ≤ v.toInt := IntOp.cmpi_sge.1 h0
  have h1' : v.toInt < 16384 := IntOp.cmpi_slt.1 h1
  rw [BitVec.toInt_eq_toNat_cond] at h0' h1'
  split at h1' <;> simp_all <;> omega

/-- The precondition says that every row number is one of `x`. -/
theorem lt_of_pre [hPre : Cert.Pre_perm_in_rows.Facts] (fx : S16384x128.Idx → F .f32) (fp : S16384.Idx → BitVec 32) (fa : S_.Idx → F .f32)
    (h : Cert.Pre_perm_in_rows.fn (F := F) fx fp fa = fun _ => 1#1) (j : S16384.Idx) : (fp j).toNat < 16384 := by
  haveI : Subsingleton S_.Idx := ⟨fun a b => funext fun k => k.elim0⟩
  exact lt_of_range _ (Host.reduce_andi_all _ _ _ _ ix0 (congrFun h ix0) j)

end Cert.Proof.Mix

end
-- ==== Proof.Reference.lean ====
/-
  What the reference computes, element by element: `alpha` times `x` plus `1 - alpha` times `x` at the row that the list
  names, when the list names rows of `x`.
-/
module

public import proofs.«01_k».proof.Proof.Gen.ReferenceIdeal.Run
public import Idealize.ShloMosaic.Lib.ReduceAll
public import Idealize.ShloMosaic.Lib.ValueIdx
public import Idealize.ShloMosaic.Lib.Pipeline.Value

@[expose] public section

noncomputable section

namespace Cert.Proof.MixReference

open Cert.ReferenceIdeal Cert.ReferenceIdeal.Gen
open Idealize.ShloMosaic
open Idealize.ShloMosaic.ValueIdx
open Idealize.SL.Sem

variable {F : FTy → Type} [FloatOps F]

/-! ## Words in range -/

/-- A word below 16384 is the same number when it is read signed, -/
theorem toInt_word (v : BitVec 32) (h : v.toNat < 16384) : v.toInt = v.toNat := by
  rw [BitVec.toInt_eq_toNat_cond, if_pos (by omega)]

/-- so it is not negative, and adding 16384 to the negative ones leaves it, -/
theorem wrap_word (v : BitVec 32) (h : v.toNat < 16384) : Scalar.select (IntOp.cmpi .slt v 0#32) (IntOp.addi v 16384#32) v = v := by
  have hn : IntOp.cmpi .slt v 0#32 ≠ 1#1 := fun e => by
    have e' : v.toInt < 0 := IntOp.cmpi_slt.1 e
    rw [toInt_word v h] at e'
    omega
  have hz : ∀ b : BitVec 1, b ≠ 1#1 → b = 0#1 := by decide
  rw [hz _ hn]; rfl

/-- it lies between 0 and 16383, -/
theorem word_inside (v : BitVec 32) (h : v.toNat < 16384) : IntOp.andi (IntOp.cmpi .sge v 0#32) (IntOp.cmpi .sle v 16383#32) = 1#1 := by
  refine IntOp.andi_eq_one.2 ⟨IntOp.cmpi_sge.2 ?_, IntOp.cmpi_sle.2 ?_⟩
  · show (0 : Int) ≤ v.toInt
    rw [toInt_word v h]; omega
  · show v.toInt ≤ (16383 : Int)
    rw [toInt_word v h]; omega

/-- and clamping it to those leaves it. -/
theorem clamp_word (v : BitVec 32) (h : v.toNat < 16384) : min v.toInt.toNat (16384 - 1) = v.toNat := by
  rw [toInt_word v h]
  omega

/-! ## Rows by number -/

/-- The column of row numbers at a row. -/
theorem column_apply (fp : S16384.Idx → BitVec 32) (y : S16384x1.Idx) :
    broadcastInDim S16384x1 ![0] bcast_S16384_S16384x1_0 fp y = fp (ix1 (y 0)) :=
  broadcastInDim_apply ![0] bcast_S16384_S16384x1_0 fp y (ix1 (y 0)) fun a => by
    obtain rfl : a = 0 := Subsingleton.elim _ _
    rfl

/-- The gather of rows of `x`, at an element: the same column of the row that the list names, clamped to the rows there are. -/
theorem gather_apply (fx : S16384x128.Idx → F .f32) (c : IVec S16384x1 32) (i : S16384x128.Idx) :
    Host.gather gather_S16384x128_S16384x1_S16384x128_1_0_n_n_0_1_1128 fx c i
      = fx (ix2 ⟨min (c (ix2 (i 0) 0)).toInt.toNat (16384 - 1), by omega⟩ (i 1)) := by
  unfold Host.gather
  congr 1
  funext a
  refine Fin.ext ?_
  show GatherDims.start _ i c a + GatherDims.batchCoord _ i a + GatherDims.offCoord _ i a = _
  rw [GatherDims.batchCoord_eq_zero _ _ _ List.not_mem_nil]
  have h01 : a = (0 : Fin 2) ∨ a = (1 : Fin 2) := match a with | ⟨0, _⟩ => .inl rfl | ⟨1, _⟩ => .inr rfl
  rcases h01 with rfl | rfl
  · rw [GatherDims.offCoord_eq_zero _ _ _ (fun h => ((GatherDims.mem_sKept _ _).mp h).1 (List.mem_singleton.mpr rfl))]
    unfold GatherDims.start
    rw [dif_pos (show (0 : Fin 2) ∈ gather_S16384x128_S16384x1_S16384x128_1_0_n_n_0_1_1128.startIndexMap from List.mem_singleton.mpr rfl)]
    refine congrArg (fun z => min (c z).toInt.toNat (16384 - 1)) (funext fun b => Fin.ext ?_)
    match b with
    | ⟨0, _⟩ => rfl
    | ⟨1, _⟩ => rfl
  · unfold GatherDims.start
    rw [dif_neg (show ¬ (1 : Fin 2) ∈ gather_S16384x128_S16384x1_S16384x128_1_0_n_n_0_1_1128.startIndexMap from
      fun h => absurd (List.mem_singleton.mp h) (by decide)), Nat.zero_add]
    unfold GatherDims.offCoord
    rw [dif_pos (show (1 : Fin 2) ∈ gather_S16384x128_S16384x1_S16384x128_1_0_n_n_0_1_1128.sKept from
      (GatherDims.mem_sKept _ _).mpr ⟨fun h => absurd (List.mem_singleton.mp h) (by decide), List.not_mem_nil⟩)]
    rfl

/-- The row numbers after the negative ones are wrapped, as a column. -/
abbrev wrapped (fp : S16384.Idx → BitVec 32) : IVec S16384x1 32 :=
  broadcastInDim S16384x1 ![0] bcast_S16384_S16384x1_0
    (select (cmpi .slt fp (broadcastInDim S16384 ![] bcast_S_S16384 (constantI S_ 32 0#32)))
      (addi fp (broadcastInDim S16384 ![] bcast_S_S16384 (constantI S_ 32 16384#32))) fp)

/-- Which rows are named inside `x`. -/
abbrev inside (c : IVec S16384x1 32) : IVec S16384x1 1 :=
  andi (cmpi .sge c (broadcastInDim S16384x1 ![] bcast_S_S16384x1 (constantI S_ 32 0#32)))
    (cmpi .sle c (broadcastInDim S16384x1 ![0, 1] bcast_S1x1_S16384x1_0_1 (broadcastInDim S1x1 ![1] bcast_S1_S1x1_1 (constantI S1 32 16383#32))))

/-- The rows of `x` by number, a row not in `x` filled. -/
abbrev taken (fx : S16384x128.Idx → F .f32) (fp : S16384.Idx → BitVec 32) : FVec F S16384x128 .f32 :=
  select (broadcastInDim S16384x128 ![0] bcast_S16384_S16384x128_0
      (Host.reduce IntOp.andi (inside (wrapped fp)) (constantI S_ 1 1#1) reducesTo_S16384x1_S16384_d1 h_S_))
    (Host.gather gather_S16384x128_S16384x1_S16384x128_1_0_n_n_0_1_1128 fx (wrapped fp))
    (broadcastInDim S16384x128 ![] bcast_S_S16384x128 (constant S_ .f32 0x7FC00000#32))

theorem wrapped_apply (fp : S16384.Idx → BitVec 32) (h : ∀ j, (fp j).toNat < 16384) (y : S16384x1.Idx) : wrapped fp y = fp (ix1 (y 0)) :=
  (column_apply _ y).trans (wrap_word _ (h _))

theorem inside_apply (c : IVec S16384x1 32) (h : ∀ y, (c y).toNat < 16384) (y : S16384x1.Idx) : inside c y = 1#1 := word_inside _ (h y)

/-- A row of `x` by a number in range. -/
theorem taken_apply (fx : S16384x128.Idx → F .f32) (fp : S16384.Idx → BitVec 32) (h : ∀ j, (fp j).toNat < 16384) (i : S16384x128.Idx) :
    taken fx fp i = fx (ix2 ⟨(fp (ix1 (i 0))).toNat, h _⟩ (i 1)) := by
  have hw : ∀ y, (wrapped fp y).toNat < 16384 := fun y => (wrapped_apply fp h y) ▸ h _
  have h1 : broadcastInDim S16384x128 ![0] bcast_S16384_S16384x128_0
      (Host.reduce IntOp.andi (inside (wrapped fp)) (constantI S_ 1 1#1) reducesTo_S16384x1_S16384_d1 h_S_) i = 1#1 :=
    Host.reduce_andi_one _ _ _ _ _ rfl (inside_apply _ hw)
  have hs : ∀ b : F .f32, Scalar.select 1#1 (fx (ix2 ⟨(fp (ix1 (i 0))).toNat, h _⟩ (i 1))) b = fx (ix2 ⟨(fp (ix1 (i 0))).toNat, h _⟩ (i 1)) := fun _ => rfl
  rw [taken, select_apply, h1, gather_apply]
  refine (congrArg (fun z => Scalar.select 1#1 z _) (congrArg (fun r => fx (ix2 r (i 1))) (Fin.ext ?_))).trans (hs _)
  show min (wrapped fp (ix2 (i 0) 0)).toInt.toNat (16384 - 1) = _
  rw [clamp_word _ (hw _), wrapped_apply fp h]

/-! ## The reference's result -/

/-- The reference's result. -/
abbrev refVal (fx : S16384x128.Idx → F .f32) (fp : S16384.Idx → BitVec 32) (fa : S_.Idx → F .f32) : FVec F S16384x128 .f32 :=
  addf (mulf (broadcastInDim S16384x128 ![] bcast_S_S16384x128 fa) fx)
    (mulf (broadcastInDim S16384x128 ![] bcast_S_S16384x128 (subf (constant S_ .f32 0x3F800000#32) fa)) (taken fx fp))

/-- The reference's result, element by element. -/
theorem refVal_apply (fx : S16384x128.Idx → F .f32) (fp : S16384.Idx → BitVec 32) (fa : S_.Idx → F .f32) (h : ∀ j, (fp j).toNat < 16384)
    (i : S16384x128.Idx) :
    refVal fx fp fa i = FloatOps.addf (FloatOps.mulf (fa ix0) (fx i))
      (FloatOps.mulf (FloatOps.subf (Scalar.ofBits .f32 0x3F800000#32) (fa ix0)) (fx (ix2 ⟨(fp (ix1 (i 0))).toNat, h _⟩ (i 1)))) := by
  have e : ∀ f : S_.Idx → F .f32, broadcastInDim S16384x128 ![] bcast_S_S16384x128 f i = f ix0 := fun f =>
    congrArg f (funext fun a => a.elim0)
  show FloatOps.addf (FloatOps.mulf (broadcastInDim S16384x128 ![] bcast_S_S16384x128 fa i) (fx i))
    (FloatOps.mulf (broadcastInDim S16384x128 ![] bcast_S_S16384x128 (subf (constant S_ .f32 0x3F800000#32) fa) i) (taken fx fp i)) = _
  rw [e, e, taken_apply fx fp h]
  rfl

/-- The reference runs to its end, leaving its result and its arguments as they were; it has no semaphores. -/
theorem run_ref (m : (ℓ : Loc nD τ sig) → Buf (Elt F) ℓ) (ρ : Dev nD → PrngReg) :
    θ_run defs (onTc (τ := τ) (main (F := F))) ⟨m, fun _ => 0, ρ⟩ fun r =>
      (∀ c : Dev nD, r.2.mem ((c.tc : Thread nD τ).loc main_v6)
          = refVal (m ((c.tc : Thread nD τ).loc main_arg0)) (m ((c.tc : Thread nD τ).loc main_arg1)) (m ((c.tc : Thread nD τ).loc main_arg2))
        ∧ r.2.mem ((c.tc : Thread nD τ).loc main_arg0) = m ((c.tc : Thread nD τ).loc main_arg0)
        ∧ r.2.mem ((c.tc : Thread nD τ).loc main_arg1) = m ((c.tc : Thread nD τ).loc main_arg1)
        ∧ r.2.mem ((c.tc : Thread nD τ).loc main_arg2) = m ((c.tc : Thread nD τ).loc main_arg2))
      ∧ r.2.sem = fun _ => 0 :=
  (θ_run defs _ _).mono (fun r h => ⟨h, sem_eq_zero_of_no_sems (by decide) r.2⟩) (Cert.ReferenceIdeal.Value.run (F := F) m ρ)

end Cert.Proof.MixReference

end
-- ==== Proof.Equation.lean ====
/-
  The kernel's result is the reference's, element by element.
-/
module

public import proofs.«01_k».proof.Proof.Launch
public import proofs.«01_k».proof.Proof.Reference

@[expose] public section

noncomputable section

namespace Cert.Proof.Mix

open Cert.KernelIdeal Cert.KernelIdeal.Gen
open Idealize.ShloMosaic
open Idealize.ShloMosaic.ValueIdx
open Idealize.SL.Sem

variable {F : FTy → Type} [FloatOps F]

variable (m : (ℓ : Loc nD τ sig) → Buf (Elt F) ℓ)

/-- The list's number for row `n` is `perm`'s. -/
theorem permAt_rowNos (d : Dev nD) (n : Fin 16384) : permAt (rowNos m d) n = (m (pLoc d) : S16384.Idx → BitVec 32) (ix1 n) := by
  unfold permAt rowNos
  refine shapeCast_apply _ _ _ (ix1 n) ?_
  rw [Shape.rowMajor_val_one, Shape.rowMajor_val_three]
  show n.val = (n.val / 512 * 4 + n.val % 512 / 128) * 128 + n.val % 128
  omega

/-- The factor of `x` in every lane is `alpha`, -/
theorem alpha_lane (d : Dev nD) (k : Fin 16) : k0_pay41 (alphas m d) (ix1 k) = (m (aLoc d) : S_.Idx → F .f32) ix0 := by
  unfold k0_pay41
  refine (shapeCast_apply _ _ (ix1 k) (ix1 k) rfl).trans ?_
  exact congrArg (m (aLoc d) : S_.Idx → F .f32) (funext fun a => a.elim0)

/-- and the other factor `1 - alpha`. -/
theorem rest_lane (d : Dev nD) (k : Fin 16) :
    k0_pay42 (alphas m d) (ix1 k) = FloatOps.subf (Scalar.ofBits .f32 0x3F800000#32) ((m (aLoc d) : S_.Idx → F .f32) ix0) := by
  rw [← alpha_lane m d k]; rfl

/-- What the kernel computes is what the reference computes. -/
theorem out_eq (hpre : PreOK m) (d : Dev nD) : out m hpre d = MixReference.refVal (m (xLoc d)) (m (pLoc d)) (m (aLoc d)) := by
  funext i
  rw [MixReference.refVal_apply _ _ _ (hpre d) i]
  unfold out result mix1
  rw [alpha_lane, rest_lane]
  refine congrArg (fun r => FloatOps.addf _ (FloatOps.mulf _ ((m (xLoc d) : S16384x128.Idx → F .f32) (ix2 r (i 1))))) (Fin.ext ?_)
  exact congrArg BitVec.toNat (permAt_rowNos m d (i 0))

end Cert.Proof.Mix

end
-- ==== Proof.lean ====
/-
  The proof of `Cert.Claim`. Its parts:
  * the kernel, in its printed form, runs to its end with its arguments as they were and its semaphores at zero, when the
    row numbers name rows of `x`; the same of the form read over the extended reals, which has the same text and no
    rewrites;
  * the reference runs so, too;
  * over the extended reals the kernel's one result is the reference's.
  The run of the kernel is proved once, over any float values (`Proof/Run.lean`).
-/
module

public import proofs.«01_k».proof.Defs
public import proofs.«01_k».proof.Proof.Run
public import proofs.«01_k».proof.Proof.Equation
public import proofs.«01_k».proof.Proof.Gen.Kernel
public import proofs.«01_k».proof.Proof.Gen.Kernel.Skeleton
public import proofs.«01_k».proof.Proof.Gen.KernelIdeal
public import proofs.«01_k».proof.Proof.Gen.KernelIdeal.Skeleton
public import proofs.«01_k».proof.Proof.Gen.ReferenceIdeal
public import proofs.«01_k».proof.Proof.Gen.ReferenceIdeal.Run
public import proofs.«01_k».proof.Proof.Gen.Pre_perm_in_rows
public import Idealize.ShloMosaic.Adequacy
public import Idealize.ShloMosaic.Init

@[expose] public section

noncomputable section

namespace Cert.Proof

open Idealize.ShloMosaic Idealize.SL.Sem

instance : Cert.Kernel.Facts := Cert.Kernel.Gen.facts
instance : Cert.KernelIdeal.Facts := Cert.KernelIdeal.Gen.facts
instance : Cert.ReferenceIdeal.Facts := Cert.ReferenceIdeal.Gen.facts
instance : Cert.Pre_perm_in_rows.Facts := Cert.Pre_perm_in_rows.Gen.facts

/-- The precondition of the kernel gives that every row number names a row of `x`. -/
theorem ok_kernel (m) (h : Cert.Pre_Kernel m) : Mix.PreOK (F := Bits) m := fun d => Mix.lt_of_pre _ _ _ (h d)
/-- So does that of its idealization. -/
theorem ok_kernelIdeal (m) (h : Cert.Pre_KernelIdeal m) : Mix.PreOK (F := Ideal) m := fun d => Mix.lt_of_pre _ _ _ (h d)

/-- The kernel ends with its arguments unchanged and its semaphores at zero. -/
theorem frame_kernel : Cert.quiescent_Kernel := fun m ρ hpre =>
  (θ_run Cert.KernelIdeal.defs _ _).mono (fun _ h => ⟨fun c => ⟨(h.1 c).1, (h.1 c).2.1, (h.1 c).2.2.1⟩, h.2⟩)
    (Mix.run_main (F := Bits) m ρ (ok_kernel m hpre))

/-- So does its idealization. -/
theorem frame_kernelIdeal : Cert.quiescent_KernelIdeal := fun m ρ hpre =>
  (θ_run Cert.KernelIdeal.defs _ _).mono (fun _ h => ⟨fun c => ⟨(h.1 c).1, (h.1 c).2.1, (h.1 c).2.2.1⟩, h.2⟩)
    (Mix.run_main (F := Ideal) m ρ (ok_kernelIdeal m hpre))

/-- So does the reference, -/
theorem frame_reference : Cert.quiescent_ReferenceIdeal := fun m ρ _ =>
  (θ_run Cert.ReferenceIdeal.defs _ _).mono (fun _ h => ⟨fun c => (h.1 c).2, h.2⟩) (MixReference.run_ref (F := Ideal) m ρ)

/-- in particular under the precondition. -/
theorem frame_reference_pre : Cert.quiescent_ReferenceIdeal_pre_perm_in_rows := fun m ρ _ => frame_reference m ρ trivial

/-- Over the extended reals, from equal arguments, the kernel and the reference end with equal results. -/
theorem algebraic : Cert.algebraic_KernelIdeal_ReferenceIdeal := by
  intro m ρ m' ρ' hpre hagree
  have hok := ok_kernelIdeal m hpre
  refine ⟨fun c => Mix.out m hok c,
    (θ_run Cert.KernelIdeal.defs _ _).mono (fun _ h c => ⟨(h.1 c).2.2.2, (h.1 c).1, (h.1 c).2.1, (h.1 c).2.2.1⟩) (Mix.run_main (F := Ideal) m ρ hok),
    (θ_run Cert.ReferenceIdeal.defs _ _).mono (fun _ h c => ⟨(h.1 c).1.trans ?_, (h.1 c).2⟩) (MixReference.run_ref (F := Ideal) m' ρ')⟩
  rw [(hagree c).1, (hagree c).2.1, (hagree c).2.2]
  exact (Mix.out_eq m hok c).symm

/-- Every claim. -/
theorem claim : Cert.Claim :=
  ⟨Cert.Kernel.Gen.facts, Cert.KernelIdeal.Gen.facts, Cert.ReferenceIdeal.Gen.facts, Cert.Pre_perm_in_rows.Gen.facts,
    frame_kernel, frame_kernelIdeal, frame_reference, frame_reference_pre, trivial, algebraic⟩

end Cert.Proof

end
